-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_max_finite [hPre_row_max_finite : Cert.Pre_row_max_finite.Facts] (m : (ℓ : Loc Cert.KernelIdeal.nD Cert.KernelIdeal.τ Cert.KernelIdeal.sig) → Buf (Elt Ideal) ℓ) : Prop :=
  ∀ c : Dev Cert.KernelIdeal.nD,
    (Cert.Pre_row_max_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_max_finite [hPre_row_max_finite : Cert.Pre_row_max_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_max_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_row_max_finite [hKernelIdeal : Cert.KernelIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_max_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_row_max_finite [hReferenceIdeal : Cert.ReferenceIdeal.Facts] [hPre_row_max_finite : Cert.Pre_row_max_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_max_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_row_max_finite [hKernelIdeal : Cert.KernelIdeal.Facts] [hReferenceIdeal : Cert.ReferenceIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_max_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v230)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v230) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_row_max_finite : Cert.Pre_row_max_finite.Facts),
    quiescent_Kernel (hKernel := hKernel)
    ∧ quiescent_KernelIdeal (hKernelIdeal := hKernelIdeal)
    ∧ quiescent_KernelIdeal_pre_row_max_finite (hKernelIdeal := hKernelIdeal) (hPre_row_max_finite := hPre_row_max_finite)
    ∧ quiescent_ReferenceIdeal (hReferenceIdeal := hReferenceIdeal)
    ∧ quiescent_ReferenceIdeal_pre_row_max_finite (hReferenceIdeal := hReferenceIdeal) (hPre_row_max_finite := hPre_row_max_finite)
    ∧ preserves_Kernel_KernelIdeal
    ∧ algebraic_KernelIdeal_ReferenceIdeal_pre_row_max_finite (hKernelIdeal := hKernelIdeal) (hReferenceIdeal := hReferenceIdeal) (hPre_row_max_finite := hPre_row_max_finite)
-- ==== Pre_row_max_finite.lean ====
abbrev S128x100000 : Shape := ⟨2, ![128, 100000]⟩
abbrev S_ : Shape := ⟨0, ![]⟩
abbrev S128 : Shape := ⟨1, ![128]⟩

class Facts : Prop where
  reducesTo_S128x100000_S128_d1 : S128x100000.ReducesTo [1] S128
  h_S_ : 0 < S_.numel
  bcast_S_S128 : S_.BroadcastsInDim S128 (![] : Fin 0 → Fin S128.rank)

variable [Facts]

def fn {F : FTy → Type} [FloatOps F] (main_arg0 : FVec F S128x100000 .f32) : IVec S128 1 :=
  let main_cst : FVec F S_ .f32 := constant S_ .f32 0xFF800000#32
  let main_v0 : FVec F S128 .f32 := (fun x v => Host.reduce FloatOps.maximumf x v reducesTo_S128x100000_S128_d1 h_S_) main_arg0 main_cst
  let main_v1 : FVec F S128 .f32 := Host.absf main_v0
  let main_cst_0 : FVec F S_ .f32 := constant S_ .f32 0x7F800000#32
  let main_v2 : FVec F S128 .f32 := broadcastInDim S128 ![] bcast_S_S128 main_cst_0
  let main_v3 : IVec S128 1 := cmpf .olt main_v1 main_v2
  main_v3
-- ==== Kernel.lean ====
abbrev S128x100000 : Shape := ⟨2, ![128, 100000]⟩
abbrev S100000x128 : Shape := ⟨2, ![100000, 128]⟩
abbrev S_ : Shape := ⟨0, ![]⟩
abbrev S29 : Shape := ⟨1, ![29]⟩
abbrev S1x100000x128 : Shape := ⟨3, ![1, 100000, 128]⟩
abbrev S29x1x1 : Shape := ⟨3, ![29, 1, 1]⟩
abbrev S29x100000x128 : Shape := ⟨3, ![29, 100000, 128]⟩
abbrev S50000x128 : Shape := ⟨2, ![50000, 128]⟩
abbrev S2000x128 : Shape := ⟨2, ![2000, 128]⟩
abbrev S8x128 : Shape := ⟨2, ![8, 128]⟩
abbrev S1x128 : Shape := ⟨2, ![1, 128]⟩
abbrev S128 : Shape := ⟨1, ![128]⟩

abbrev nBuf : Space → Nat
  | .hbm => 311
  | .vmem => 8
  | .smem => 0
  | _ => 0

abbrev hbmTy0_0 (i : Nat) : BufTy := match i % 128 with
  | 0 => ⟨S128x100000, .f32⟩
  | 1 => ⟨S100000x128, .i32⟩
  | 2 => ⟨S_, .i32⟩
  | 3 => ⟨S100000x128, .i32⟩
  | 4 => ⟨S100000x128, .i32⟩
  | 5 => ⟨S100000x128, .i32⟩
  | 6 => ⟨S100000x128, .i32⟩
  | 7 => ⟨S_, .i32⟩
  | 8 => ⟨S100000x128, .i32⟩
  | 9 => ⟨S_, .i32⟩
  | 10 => ⟨S100000x128, .i32⟩
  | 11 => ⟨S100000x128, .i32⟩
  | 12 => ⟨S100000x128, .i32⟩
  | 13 => ⟨S_, .i32⟩
  | 14 => ⟨S100000x128, .i32⟩
  | 15 => ⟨S100000x128, .i32⟩
  | 16 => ⟨S_, .i32⟩
  | 17 => ⟨S100000x128, .i32⟩
  | 18 => ⟨S100000x128, .i32⟩
  | 19 => ⟨S100000x128, .i32⟩
  | 20 => ⟨S100000x128, .i32⟩
  | 21 => ⟨S100000x128, .i32⟩
  | 22 => ⟨S_, .i32⟩
  | 23 => ⟨S100000x128, .i32⟩
  | 24 => ⟨S100000x128, .i32⟩
  | 25 => ⟨S_, .i32⟩
  | 26 => ⟨S100000x128, .i32⟩
  | 27 => ⟨S100000x128, .i32⟩
  | 28 => ⟨S100000x128, .i32⟩
  | 29 => ⟨S100000x128, .i32⟩
  | 30 => ⟨S100000x128, .i32⟩
  | 31 => ⟨S_, .i32⟩
  | 32 => ⟨S100000x128, .i32⟩
  | 33 => ⟨S100000x128, .i32⟩
  | 34 => ⟨S_, .i32⟩
  | 35 => ⟨S100000x128, .i32⟩
  | 36 => ⟨S100000x128, .i32⟩
  | 37 => ⟨S100000x128, .i32⟩
  | 38 => ⟨S100000x128, .i32⟩
  | 39 => ⟨S100000x128, .i32⟩
  | 40 => ⟨S_, .i32⟩
  | 41 => ⟨S100000x128, .i32⟩
  | 42 => ⟨S100000x128, .i32⟩
  | 43 => ⟨S_, .i32⟩
  | 44 => ⟨S100000x128, .i32⟩
  | 45 => ⟨S100000x128, .i32⟩
  | 46 => ⟨S100000x128, .i32⟩
  | 47 => ⟨S100000x128, .i32⟩
  | 48 => ⟨S_, .i32⟩
  | 49 => ⟨S100000x128, .i32⟩
  | 50 => ⟨S100000x128, .i32⟩
  | 51 => ⟨S_, .i32⟩
  | 52 => ⟨S100000x128, .i32⟩
  | 53 => ⟨S100000x128, .i32⟩
  | 54 => ⟨S100000x128, .i32⟩
  | 55 => ⟨S_, .i32⟩
  | 56 => ⟨S100000x128, .i32⟩
  | 57 => ⟨S100000x128, .i32⟩
  | 58 => ⟨S_, .i32⟩
  | 59 => ⟨S100000x128, .i32⟩
  | 60 => ⟨S100000x128, .i32⟩
  | 61 => ⟨S100000x128, .i32⟩
  | 62 => ⟨S100000x128, .i32⟩
  | 63 => ⟨S100000x128, .i32⟩
  | 64 => ⟨S_, .i32⟩
  | 65 => ⟨S100000x128, .i32⟩
  | 66 => ⟨S100000x128, .i32⟩
  | 67 => ⟨S_, .i32⟩
  | 68 => ⟨S100000x128, .i32⟩
  | 69 => ⟨S100000x128, .i32⟩
  | 70 => ⟨S100000x128, .i32⟩
  | 71 => ⟨S100000x128, .i32⟩
  | 72 => ⟨S100000x128, .i32⟩
  | 73 => ⟨S_, .i32⟩
  | 74 => ⟨S100000x128, .i32⟩
  | 75 => ⟨S100000x128, .i32⟩
  | 76 => ⟨S_, .i32⟩
  | 77 => ⟨S100000x128, .i32⟩
  | 78 => ⟨S100000x128, .i32⟩
  | 79 => ⟨S100000x128, .i32⟩
  | 80 => ⟨S100000x128, .i32⟩
  | 81 => ⟨S100000x128, .i32⟩
  | 82 => ⟨S_, .i32⟩
  | 83 => ⟨S100000x128, .i32⟩
  | 84 => ⟨S100000x128, .i32⟩
  | 85 => ⟨S_, .i32⟩
  | 86 => ⟨S100000x128, .i32⟩
  | 87 => ⟨S100000x128, .i32⟩
  | 88 => ⟨S100000x128, .i32⟩
  | 89 => ⟨S100000x128, .i32⟩
  | 90 => ⟨S_, .i32⟩
  | 91 => ⟨S100000x128, .i32⟩
  | 92 => ⟨S100000x128, .i32⟩
  | 93 => ⟨S_, .i32⟩
  | 94 => ⟨S100000x128, .i32⟩
  | 95 => ⟨S100000x128, .i32⟩
  | 96 => ⟨S100000x128, .i32⟩
  | 97 => ⟨S_, .i32⟩
  | 98 => ⟨S100000x128, .i32⟩
  | 99 => ⟨S100000x128, .i32⟩
  | 100 => ⟨S_, .i32⟩
  | 101 => ⟨S100000x128, .i32⟩
  | 102 => ⟨S100000x128, .i32⟩
  | 103 => ⟨S100000x128, .i32⟩
  | 104 => ⟨S100000x128, .i32⟩
  | 105 => ⟨S100000x128, .i32⟩
  | 106 => ⟨S_, .i32⟩
  | 107 => ⟨S100000x128, .i32⟩
  | 108 => ⟨S100000x128, .i32⟩
  | 109 => ⟨S_, .i32⟩
  | 110 => ⟨S100000x128, .i32⟩
  | 111 => ⟨S100000x128, .i32⟩
  | 112 => ⟨S100000x128, .i32⟩
  | 113 => ⟨S100000x128, .i32⟩
  | 114 => ⟨S100000x128, .i32⟩
  | 115 => ⟨S_, .i32⟩
  | 116 => ⟨S100000x128, .i32⟩
  | 117 => ⟨S100000x128, .i32⟩
  | 118 => ⟨S_, .i32⟩
  | 119 => ⟨S100000x128, .i32⟩
  | 120 => ⟨S100000x128, .i32⟩
  | 121 => ⟨S100000x128, .i32⟩
  | 122 => ⟨S100000x128, .i32⟩
  | 123 => ⟨S100000x128, .i32⟩
  | 124 => ⟨S_, .i32⟩
  | 125 => ⟨S100000x128, .i32⟩
  | 126 => ⟨S100000x128, .i32⟩
  | 127 => ⟨S_, .i32⟩
  | _ => ⟨S128x100000, .f32⟩

abbrev hbmTy0_1 (i : Nat) : BufTy := match i % 128 with
  | 0 => ⟨S100000x128, .i32⟩
  | 1 => ⟨S100000x128, .i32⟩
  | 2 => ⟨S100000x128, .i32⟩
  | 3 => ⟨S100000x128, .i32⟩
  | 4 => ⟨S_, .i32⟩
  | 5 => ⟨S100000x128, .i32⟩
  | 6 => ⟨S100000x128, .i32⟩
  | 7 => ⟨S_, .i32⟩
  | 8 => ⟨S100000x128, .i32⟩
  | 9 => ⟨S100000x128, .i32⟩
  | 10 => ⟨S100000x128, .i32⟩
  | 11 => ⟨S_, .i32⟩
  | 12 => ⟨S100000x128, .i32⟩
  | 13 => ⟨S100000x128, .i32⟩
  | 14 => ⟨S_, .i32⟩
  | 15 => ⟨S100000x128, .i32⟩
  | 16 => ⟨S100000x128, .i32⟩
  | 17 => ⟨S100000x128, .i32⟩
  | 18 => ⟨S100000x128, .i32⟩
  | 19 => ⟨S100000x128, .i32⟩
  | 20 => ⟨S_, .i32⟩
  | 21 => ⟨S100000x128, .i32⟩
  | 22 => ⟨S100000x128, .i32⟩
  | 23 => ⟨S_, .i32⟩
  | 24 => ⟨S100000x128, .i32⟩
  | 25 => ⟨S100000x128, .i32⟩
  | 26 => ⟨S100000x128, .i32⟩
  | 27 => ⟨S100000x128, .i32⟩
  | 28 => ⟨S100000x128, .i32⟩
  | 29 => ⟨S_, .i32⟩
  | 30 => ⟨S100000x128, .i32⟩
  | 31 => ⟨S100000x128, .i32⟩
  | 32 => ⟨S_, .i32⟩
  | 33 => ⟨S100000x128, .i32⟩
  | 34 => ⟨S100000x128, .i32⟩
  | 35 => ⟨S100000x128, .i32⟩
  | 36 => ⟨S100000x128, .i32⟩
  | 37 => ⟨S100000x128, .i32⟩
  | 38 => ⟨S_, .i32⟩
  | 39 => ⟨S100000x128, .i32⟩
  | 40 => ⟨S100000x128, .i32⟩
  | 41 => ⟨S_, .i32⟩
  | 42 => ⟨S100000x128, .i32⟩
  | 43 => ⟨S100000x128, .i32⟩
  | 44 => ⟨S100000x128, .i32⟩
  | 45 => ⟨S100000x128, .i32⟩
  | 46 => ⟨S_, .i32⟩
  | 47 => ⟨S100000x128, .i32⟩
  | 48 => ⟨S100000x128, .i32⟩
  | 49 => ⟨S_, .i32⟩
  | 50 => ⟨S100000x128, .i32⟩
  | 51 => ⟨S100000x128, .i32⟩
  | 52 => ⟨S100000x128, .i32⟩
  | 53 => ⟨S_, .i32⟩
  | 54 => ⟨S100000x128, .i32⟩
  | 55 => ⟨S100000x128, .i32⟩
  | 56 => ⟨S_, .i32⟩
  | 57 => ⟨S100000x128, .i32⟩
  | 58 => ⟨S100000x128, .i32⟩
  | 59 => ⟨S100000x128, .i32⟩
  | 60 => ⟨S100000x128, .i32⟩
  | 61 => ⟨S100000x128, .i32⟩
  | 62 => ⟨S_, .i32⟩
  | 63 => ⟨S100000x128, .i32⟩
  | 64 => ⟨S100000x128, .i32⟩
  | 65 => ⟨S_, .i32⟩
  | 66 => ⟨S100000x128, .i32⟩
  | 67 => ⟨S100000x128, .i32⟩
  | 68 => ⟨S100000x128, .i32⟩
  | 69 => ⟨S100000x128, .i32⟩
  | 70 => ⟨S100000x128, .i32⟩
  | 71 => ⟨S_, .i32⟩
  | 72 => ⟨S100000x128, .i32⟩
  | 73 => ⟨S100000x128, .i32⟩
  | 74 => ⟨S_, .i32⟩
  | 75 => ⟨S100000x128, .i32⟩
  | 76 => ⟨S100000x128, .i32⟩
  | 77 => ⟨S100000x128, .i32⟩
  | 78 => ⟨S100000x128, .i32⟩
  | 79 => ⟨S100000x128, .i32⟩
  | 80 => ⟨S_, .i32⟩
  | 81 => ⟨S100000x128, .i32⟩
  | 82 => ⟨S100000x128, .i32⟩
  | 83 => ⟨S_, .i32⟩
  | 84 => ⟨S100000x128, .i32⟩
  | 85 => ⟨S100000x128, .i32⟩
  | 86 => ⟨S100000x128, .i32⟩
  | 87 => ⟨S100000x128, .i32⟩
  | 88 => ⟨S_, .i32⟩
  | 89 => ⟨S100000x128, .i32⟩
  | 90 => ⟨S100000x128, .i32⟩
  | 91 => ⟨S_, .i32⟩
  | 92 => ⟨S100000x128, .i32⟩
  | 93 => ⟨S100000x128, .i32⟩
  | 94 => ⟨S100000x128, .i32⟩
  | 95 => ⟨S_, .i32⟩
  | 96 => ⟨S100000x128, .i32⟩
  | 97 => ⟨S100000x128, .i32⟩
  | 98 => ⟨S_, .i32⟩
  | 99 => ⟨S100000x128, .i32⟩
  | 100 => ⟨S100000x128, .i32⟩
  | 101 => ⟨S100000x128, .f32⟩
  | 102 => ⟨S_, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S100000x128, .f32⟩
  | 114 => ⟨S100000x128, .f32⟩
  | 115 => ⟨S100000x128, .f32⟩
  | 116 => ⟨S29, .i32⟩
  | 117 => ⟨S_, .i32⟩
  | 118 => ⟨S29, .i32⟩
  | 119 => ⟨S29, .i32⟩
  | 120 => ⟨S29, .f32⟩
  | 121 => ⟨S_, .f32⟩
  | 122 => ⟨S29, .f32⟩
  | 123 => ⟨S29, .f32⟩
  | 124 => ⟨S1x100000x128, .f32⟩
  | 125 => ⟨S29x1x1, .f32⟩
  | 126 => ⟨S29x100000x128, .f32⟩
  | 127 => ⟨S29x100000x128, .f32⟩
  | _ => ⟨S128x100000, .f32⟩

abbrev hbmTy0_2 (i : Nat) : BufTy := match i % 128 with
  | 0 => ⟨S29x100000x128, .i1⟩
  | 1 => ⟨S_, .i32⟩
  | 2 => ⟨S_, .i32⟩
  | 3 => ⟨S29x100000x128, .i32⟩
  | 4 => ⟨S29x100000x128, .i32⟩
  | 5 => ⟨S29x100000x128, .i32⟩
  | 6 => ⟨S29x100000x128, .i32⟩
  | 7 => ⟨S_, .i32⟩
  | 8 => ⟨S100000x128, .i32⟩
  | 9 => ⟨S_, .i32⟩
  | 10 => ⟨S100000x128, .i32⟩
  | 11 => ⟨S100000x128, .i32⟩
  | 12 => ⟨S_, .i32⟩
  | 13 => ⟨S100000x128, .i32⟩
  | 14 => ⟨S100000x128, .i32⟩
  | 15 => ⟨S100000x128, .f32⟩
  | 16 => ⟨S_, .f32⟩
  | 17 => ⟨S100000x128, .f32⟩
  | 18 => ⟨S100000x128, .f32⟩
  | 19 => ⟨S100000x128, .f32⟩
  | 20 => ⟨S100000x128, .f32⟩
  | 21 => ⟨S100000x128, .i32⟩
  | 22 => ⟨S_, .i32⟩
  | 23 => ⟨S100000x128, .i32⟩
  | 24 => ⟨S100000x128, .i32⟩
  | 25 => ⟨S100000x128, .i32⟩
  | 26 => ⟨S100000x128, .i32⟩
  | 27 => ⟨S_, .i32⟩
  | 28 => ⟨S100000x128, .i32⟩
  | 29 => ⟨S100000x128, .i32⟩
  | 30 => ⟨S_, .i32⟩
  | 31 => ⟨S100000x128, .i32⟩
  | 32 => ⟨S100000x128, .i1⟩
  | 33 => ⟨S_, .i32⟩
  | 34 => ⟨S100000x128, .i32⟩
  | 35 => ⟨S100000x128, .i32⟩
  | 36 => ⟨S_, .f32⟩
  | 37 => ⟨S100000x128, .f32⟩
  | 38 => ⟨S100000x128, .i1⟩
  | 39 => ⟨S_, .i32⟩
  | 40 => ⟨S_, .i32⟩
  | 41 => ⟨S100000x128, .i32⟩
  | 42 => ⟨S100000x128, .i32⟩
  | 43 => ⟨S100000x128, .i32⟩
  | 44 => ⟨S100000x128, .i32⟩
  | 45 => ⟨S50000x128, .i32⟩
  | 46 => ⟨S50000x128, .i32⟩
  | 47 => ⟨S_, .i32⟩
  | 48 => ⟨S50000x128, .i32⟩
  | 49 => ⟨S50000x128, .i32⟩
  | 50 => ⟨S50000x128, .i32⟩
  | 51 => ⟨S100000x128, .f32⟩
  | 52 => ⟨S100000x128, .f32⟩
  | 53 => ⟨S100000x128, .f32⟩
  | 54 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .i32⟩
  | .local _ .vmem, ⟨5, _⟩ => ⟨S2000x128, .i32⟩
  | .local _ .vmem, ⟨6, _⟩ => ⟨S100000x128, .f32⟩
  | .local _ .vmem, ⟨7, _⟩ => ⟨S8x128, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_2 : Ref sig .tc := ⟨.hbm, 13, rfl⟩
abbrev main_v9 : Ref sig .tc := ⟨.hbm, 14, rfl⟩
abbrev main_v10 : Ref sig .tc := ⟨.hbm, 15, rfl⟩
abbrev main_c_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_4 : Ref sig .tc := ⟨.hbm, 22, rfl⟩
abbrev main_v16 : Ref sig .tc := ⟨.hbm, 23, rfl⟩
abbrev main_v17 : Ref sig .tc := ⟨.hbm, 24, rfl⟩
abbrev main_c_5 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_6 : Ref sig .tc := ⟨.hbm, 31, rfl⟩
abbrev main_v23 : Ref sig .tc := ⟨.hbm, 32, rfl⟩
abbrev main_v24 : Ref sig .tc := ⟨.hbm, 33, rfl⟩
abbrev main_c_7 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_8 : Ref sig .tc := ⟨.hbm, 40, rfl⟩
abbrev main_v30 : Ref sig .tc := ⟨.hbm, 41, rfl⟩
abbrev main_v31 : Ref sig .tc := ⟨.hbm, 42, rfl⟩
abbrev main_c_9 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_10 : Ref sig .tc := ⟨.hbm, 48, rfl⟩
abbrev main_v36 : Ref sig .tc := ⟨.hbm, 49, rfl⟩
abbrev main_v37 : Ref sig .tc := ⟨.hbm, 50, rfl⟩
abbrev main_c_11 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_12 : Ref sig .tc := ⟨.hbm, 55, rfl⟩
abbrev main_v41 : Ref sig .tc := ⟨.hbm, 56, rfl⟩
abbrev main_v42 : Ref sig .tc := ⟨.hbm, 57, rfl⟩
abbrev main_c_13 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_14 : Ref sig .tc := ⟨.hbm, 64, rfl⟩
abbrev main_v48 : Ref sig .tc := ⟨.hbm, 65, rfl⟩
abbrev main_v49 : Ref sig .tc := ⟨.hbm, 66, rfl⟩
abbrev main_c_15 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_16 : Ref sig .tc := ⟨.hbm, 73, rfl⟩
abbrev main_v55 : Ref sig .tc := ⟨.hbm, 74, rfl⟩
abbrev main_v56 : Ref sig .tc := ⟨.hbm, 75, rfl⟩
abbrev main_c_17 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_18 : Ref sig .tc := ⟨.hbm, 82, rfl⟩
abbrev main_v62 : Ref sig .tc := ⟨.hbm, 83, rfl⟩
abbrev main_v63 : Ref sig .tc := ⟨.hbm, 84, rfl⟩
abbrev main_c_19 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_20 : Ref sig .tc := ⟨.hbm, 90, rfl⟩
abbrev main_v68 : Ref sig .tc := ⟨.hbm, 91, rfl⟩
abbrev main_v69 : Ref sig .tc := ⟨.hbm, 92, rfl⟩
abbrev main_c_21 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_22 : Ref sig .tc := ⟨.hbm, 97, rfl⟩
abbrev main_v73 : Ref sig .tc := ⟨.hbm, 98, rfl⟩
abbrev main_v74 : Ref sig .tc := ⟨.hbm, 99, rfl⟩
abbrev main_c_23 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_24 : Ref sig .tc := ⟨.hbm, 106, rfl⟩
abbrev main_v80 : Ref sig .tc := ⟨.hbm, 107, rfl⟩
abbrev main_v81 : Ref sig .tc := ⟨.hbm, 108, rfl⟩
abbrev main_c_25 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_26 : Ref sig .tc := ⟨.hbm, 115, rfl⟩
abbrev main_v87 : Ref sig .tc := ⟨.hbm, 116, rfl⟩
abbrev main_v88 : Ref sig .tc := ⟨.hbm, 117, rfl⟩
abbrev main_c_27 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_c_28 : Ref sig .tc := ⟨.hbm, 124, rfl⟩
abbrev main_v94 : Ref sig .tc := ⟨.hbm, 125, rfl⟩
abbrev main_v95 : Ref sig .tc := ⟨.hbm, 126, rfl⟩
abbrev main_c_29 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_c_30 : Ref sig .tc := ⟨.hbm, 132, rfl⟩
abbrev main_v100 : Ref sig .tc := ⟨.hbm, 133, rfl⟩
abbrev main_v101 : Ref sig .tc := ⟨.hbm, 134, rfl⟩
abbrev main_c_31 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_c_32 : Ref sig .tc := ⟨.hbm, 139, rfl⟩
abbrev main_v105 : Ref sig .tc := ⟨.hbm, 140, rfl⟩
abbrev main_v106 : Ref sig .tc := ⟨.hbm, 141, rfl⟩
abbrev main_c_33 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_c_34 : Ref sig .tc := ⟨.hbm, 148, rfl⟩
abbrev main_v112 : Ref sig .tc := ⟨.hbm, 149, rfl⟩
abbrev main_v113 : Ref sig .tc := ⟨.hbm, 150, rfl⟩
abbrev main_c_35 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_c_36 : Ref sig .tc := ⟨.hbm, 157, rfl⟩
abbrev main_v119 : Ref sig .tc := ⟨.hbm, 158, rfl⟩
abbrev main_v120 : Ref sig .tc := ⟨.hbm, 159, rfl⟩
abbrev main_c_37 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_c_38 : Ref sig .tc := ⟨.hbm, 166, rfl⟩
abbrev main_v126 : Ref sig .tc := ⟨.hbm, 167, rfl⟩
abbrev main_v127 : Ref sig .tc := ⟨.hbm, 168, rfl⟩
abbrev main_c_39 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_c_40 : Ref sig .tc := ⟨.hbm, 174, rfl⟩
abbrev main_v132 : Ref sig .tc := ⟨.hbm, 175, rfl⟩
abbrev main_v133 : Ref sig .tc := ⟨.hbm, 176, rfl⟩
abbrev main_c_41 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_c_42 : Ref sig .tc := ⟨.hbm, 181, rfl⟩
abbrev main_v137 : Ref sig .tc := ⟨.hbm, 182, rfl⟩
abbrev main_v138 : Ref sig .tc := ⟨.hbm, 183, rfl⟩
abbrev main_c_43 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_c_44 : Ref sig .tc := ⟨.hbm, 190, rfl⟩
abbrev main_v144 : Ref sig .tc := ⟨.hbm, 191, rfl⟩
abbrev main_v145 : Ref sig .tc := ⟨.hbm, 192, rfl⟩
abbrev main_c_45 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_c_46 : Ref sig .tc := ⟨.hbm, 199, rfl⟩
abbrev main_v151 : Ref sig .tc := ⟨.hbm, 200, rfl⟩
abbrev main_v152 : Ref sig .tc := ⟨.hbm, 201, rfl⟩
abbrev main_c_47 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_c_48 : Ref sig .tc := ⟨.hbm, 208, rfl⟩
abbrev main_v158 : Ref sig .tc := ⟨.hbm, 209, rfl⟩
abbrev main_v159 : Ref sig .tc := ⟨.hbm, 210, rfl⟩
abbrev main_c_49 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_c_50 : Ref sig .tc := ⟨.hbm, 216, rfl⟩
abbrev main_v164 : Ref sig .tc := ⟨.hbm, 217, rfl⟩
abbrev main_v165 : Ref sig .tc := ⟨.hbm, 218, rfl⟩
abbrev main_c_51 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_c_52 : Ref sig .tc := ⟨.hbm, 223, rfl⟩
abbrev main_v169 : Ref sig .tc := ⟨.hbm, 224, rfl⟩
abbrev main_v170 : Ref sig .tc := ⟨.hbm, 225, rfl⟩
abbrev main_c_53 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_cst : Ref sig .tc := ⟨.hbm, 230, rfl⟩
abbrev main_v174 : Ref sig .tc := ⟨.hbm, 231, rfl⟩
abbrev main_v175 : Ref sig .tc := ⟨.hbm, 232, rfl⟩
abbrev main_cst_54 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_cst_55 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_c_56 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_cst_57 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_c_58 : Ref sig .tc := ⟨.hbm, 257, rfl⟩
abbrev main_c_59 : Ref sig .tc := ⟨.hbm, 258, rfl⟩
abbrev main_call0_v0 : Ref sig .tc := ⟨.hbm, 259, rfl⟩
abbrev main_call0_v1 : Ref sig .tc := ⟨.hbm, 260, rfl⟩
abbrev main_v196 : Ref sig .tc := ⟨.hbm, 261, rfl⟩
abbrev main_v197 : Ref sig .tc := ⟨.hbm, 262, rfl⟩
abbrev main_c_60 : Ref sig .tc := ⟨.hbm, 263, rfl⟩
abbrev main_v198 : Ref sig .tc := ⟨.hbm, 264, rfl⟩
abbrev main_c_61 : Ref sig .tc := ⟨.hbm, 265, rfl⟩
abbrev main_v199 : Ref sig .tc := ⟨.hbm, 266, rfl⟩
abbrev main_v200 : Ref sig .tc := ⟨.hbm, 267, rfl⟩
abbrev main_c_62 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_cst_63 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_c_64 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_c_65 : Ref sig .tc := ⟨.hbm, 283, rfl⟩
abbrev main_v213 : Ref sig .tc := ⟨.hbm, 284, rfl⟩
abbrev main_v214 : Ref sig .tc := ⟨.hbm, 285, rfl⟩
abbrev main_c_66 : Ref sig .tc := ⟨.hbm, 286, rfl⟩
abbrev main_v215 : Ref sig .tc := ⟨.hbm, 287, rfl⟩
abbrev main_v216 : Ref sig .tc := ⟨.hbm, 288, rfl⟩
abbrev main_c_67 : Ref sig .tc := ⟨.hbm, 289, rfl⟩
abbrev main_call2_v0 : Ref sig .tc := ⟨.hbm, 290, rfl⟩
abbrev main_v217 : Ref sig .tc := ⟨.hbm, 291, rfl⟩
abbrev main_cst_68 : Ref sig .tc := ⟨.hbm, 292, rfl⟩
abbrev main_v218 : Ref sig .tc := ⟨.hbm, 293, rfl⟩
abbrev main_v219 : Ref sig .tc := ⟨.hbm, 294, rfl⟩
abbrev main_c_69 : Ref sig .tc := ⟨.hbm, 295, rfl⟩
abbrev main_c_70 : Ref sig .tc := ⟨.hbm, 296, rfl⟩
abbrev main_call3_v0 : Ref sig .tc := ⟨.hbm, 297, rfl⟩
abbrev main_call3_v1 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_c_71 : Ref sig .tc := ⟨.hbm, 303, rfl⟩
abbrev main_v224 : Ref sig .tc := ⟨.hbm, 304, rfl⟩
abbrev main_v225 : Ref sig .tc := ⟨.hbm, 305, rfl⟩
abbrev main_v226 : Ref sig .tc := ⟨.hbm, 306, rfl⟩
abbrev main_v227 : Ref sig .tc := ⟨.hbm, 307, rfl⟩
abbrev main_v228 : Ref sig .tc := ⟨.hbm, 308, rfl⟩
abbrev main_v229 : Ref sig .tc := ⟨.hbm, 309, rfl⟩
abbrev main_v230 : Ref sig .tc := ⟨.hbm, 310, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![26], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c2000_i32 : BitVec 32 := 2000#32
  let v53 : BitVec 32 := Scalar.muli arg0 c2000_i32
  let v54 : Index := Scalar.indexCast v53
  let c0_17 : Index := 0#32
  ![v54.toNat, 0]
def k0_off2 (i : grid0.Coords) : Fin 2 → Nat :=
  let c50000_i32 : BitVec 32 := 50000#32
  let arg0 : BitVec 32 := BitVec.ofNat 32 (i 0).val
  let c2000_i32_18 : BitVec 32 := 2000#32
  let v56 : BitVec 32 := Scalar.muli arg0 c2000_i32_18
  let v57 : BitVec 32 := Scalar.addi c50000_i32 v56
  let v58 : Index := Scalar.indexCast v57
  let c0_19 : Index := 0#32
  ![v58.toNat, 0]
def k0_cond3 (i : grid0.Coords) : BitVec 1 :=
  let arg0 : BitVec 32 := BitVec.ofNat 32 (i 0).val
  let c25_i32_2 : BitVec 32 := 25#32
  let v6 : BitVec 1 := Scalar.cmpi .eq arg0 c25_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c24_i32 : BitVec 32 := 24#32
  let v0 : BitVec 32 := Scalar.minsi arg0 c24_i32
  let c25_i32 : BitVec 32 := 25#32
  let v1 : BitVec 32 := Scalar.addi v0 c25_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S100000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S128x100000 : Shape := ⟨2, ![128, 100000]⟩
abbrev S_ : Shape := ⟨0, ![]⟩
abbrev S30 : Shape := ⟨1, ![30]⟩
abbrev S128x100000x1 : Shape := ⟨3, ![128, 100000, 1]⟩
abbrev S1x1x30 : Shape := ⟨3, ![1, 1, 30]⟩
abbrev S128x100000x30 : Shape := ⟨3, ![128, 100000, 30]⟩
abbrev S128 : Shape := ⟨1, ![128]⟩
abbrev S128x1 : Shape := ⟨2, ![128, 1]⟩

abbrev nBuf : Space → Nat
  | .hbm => 297
  | .vmem => 0
  | .smem => 0
  | _ => 0

abbrev hbmTy0_0 (i : Nat) : BufTy := match i % 128 with
  | 0 => ⟨S128x100000, .f32⟩
  | 1 => ⟨S128x100000, .i32⟩
  | 2 => ⟨S_, .i32⟩
  | 3 => ⟨S128x100000, .i32⟩
  | 4 => ⟨S128x100000, .i32⟩
  | 5 => ⟨S128x100000, .i32⟩
  | 6 => ⟨S128x100000, .i32⟩
  | 7 => ⟨S_, .i32⟩
  | 8 => ⟨S128x100000, .i32⟩
  | 9 => ⟨S_, .i32⟩
  | 10 => ⟨S128x100000, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S128x100000, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S128x100000, .i32⟩
  | 47 => ⟨S128x100000, .i32⟩
  | 48 => ⟨S_, .i32⟩
  | 49 => ⟨S128x100000, .i32⟩
  | 50 => ⟨S128x100000, .i32⟩
  | 51 => ⟨S_, .i32⟩
  | 52 => ⟨S128x100000, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S_, .i32⟩
  | 101 => ⟨S128x100000, .i32⟩
  | 102 => ⟨S128x100000, .i32⟩
  | 103 => ⟨S128x100000, .i32⟩
  | 104 => ⟨S128x100000, .i32⟩
  | 105 => ⟨S128x100000, .i32⟩
  | 106 => ⟨S_, .i32⟩
  | 107 => ⟨S128x100000, .i32⟩
  | 108 => ⟨S128x100000, .i32⟩
  | 109 => ⟨S_, .i32⟩
  | 110 => ⟨S128x100000, .i32⟩
  | 111 => ⟨S128x100000, .i32⟩
  | 112 => ⟨S128x100000, .i32⟩
  | 113 => ⟨S128x100000, .i32⟩
  | 114 => ⟨S128x100000, .i32⟩
  | 115 => ⟨S_, .i32⟩
  | 116 => ⟨S128x100000, .i32⟩
  | 117 => ⟨S128x100000, .i32⟩
  | 118 => ⟨S_, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S_, .i32⟩
  | _ => ⟨S128x100000, .f32⟩

abbrev hbmTy0_1 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S128x100000, .i32⟩
  | 11 => ⟨S_, .i32⟩
  | 12 => ⟨S128x100000, .i32⟩
  | 13 => ⟨S128x100000, .i32⟩
  | 14 => ⟨S_, .i32⟩
  | 15 => ⟨S128x100000, .i32⟩
  | 16 => ⟨S128x100000, .i32⟩
  | 17 => ⟨S128x100000, .i32⟩
  | 18 => ⟨S128x100000, .i32⟩
  | 19 => ⟨S128x100000, .i32⟩
  | 20 => ⟨S_, .i32⟩
  | 21 => ⟨S128x100000, .i32⟩
  | 22 => ⟨S128x100000, .i32⟩
  | 23 => ⟨S_, .i32⟩
  | 24 => ⟨S128x100000, .i32⟩
  | 25 => ⟨S128x100000, .i32⟩
  | 26 => ⟨S128x100000, .i32⟩
  | 27 => ⟨S128x100000, .i32⟩
  | 28 => ⟨S128x100000, .i32⟩
  | 29 => ⟨S_, .i32⟩
  | 30 => ⟨S128x100000, .i32⟩
  | 31 => ⟨S128x100000, .i32⟩
  | 32 => ⟨S_, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S_, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .f32⟩
  | 102 => ⟨S_, .f32⟩
  | 103 => ⟨S128x100000, .f32⟩
  | 104 => ⟨S128x100000, .f32⟩
  | 105 => ⟨S_, .f32⟩
  | 106 => ⟨S128x100000, .f32⟩
  | 107 => ⟨S128x100000, .f32⟩
  | 108 => ⟨S128x100000, .f32⟩
  | 109 => ⟨S128x100000, .f32⟩
  | 110 => ⟨S_, .f32⟩
  | 111 => ⟨S128x100000, .f32⟩
  | 112 => ⟨S128x100000, .f32⟩
  | 113 => ⟨S128x100000, .f32⟩
  | 114 => ⟨S128x100000, .f32⟩
  | 115 => ⟨S128x100000, .f32⟩
  | 116 => ⟨S30, .i32⟩
  | 117 => ⟨S_, .i32⟩
  | 118 => ⟨S30, .i32⟩
  | 119 => ⟨S30, .i32⟩
  | 120 => ⟨S30, .f32⟩
  | 121 => ⟨S_, .f32⟩
  | 122 => ⟨S30, .f32⟩
  | 123 => ⟨S30, .f32⟩
  | 124 => ⟨S128x100000x1, .f32⟩
  | 125 => ⟨S1x1x30, .f32⟩
  | 126 => ⟨S128x100000x30, .f32⟩
  | 127 => ⟨S128x100000x30, .f32⟩
  | _ => ⟨S128x100000, .f32⟩

abbrev hbmTy0_2 (i : Nat) : BufTy := match i % 128 with
  | 0 => ⟨S128x100000x30, .i1⟩
  | 1 => ⟨S_, .f32⟩
  | 2 => ⟨S_, .f32⟩
  | 3 => ⟨S128x100000x30, .f32⟩
  | 4 => ⟨S128x100000x30, .f32⟩
  | 5 => ⟨S128x100000x30, .f32⟩
  | 6 => ⟨S_, .f32⟩
  | 7 => ⟨S128x100000, .f32⟩
  | 8 => ⟨S_, .f32⟩
  | 9 => ⟨S128x100000, .f32⟩
  | 10 => ⟨S128x100000, .f32⟩
  | 11 => ⟨S128x100000, .f32⟩
  | 12 => ⟨S128x100000, .f32⟩
  | 13 => ⟨S128x100000, .f32⟩
  | 14 => ⟨S_, .f32⟩
  | 15 => ⟨S128x100000, .f32⟩
  | 16 => ⟨S128x100000, .i1⟩
  | 17 => ⟨S_, .f32⟩
  | 18 => ⟨S_, .f32⟩
  | 19 => ⟨S128x100000, .f32⟩
  | 20 => ⟨S128x100000, .f32⟩
  | 21 => ⟨S_, .f32⟩
  | 22 => ⟨S128x100000, .f32⟩
  | 23 => ⟨S128x100000, .i1⟩
  | 24 => ⟨S128x100000, .f32⟩
  | 25 => ⟨S128x100000, .f32⟩
  | 26 => ⟨S128x100000, .f32⟩
  | 27 => ⟨S_, .f32⟩
  | 28 => ⟨S128, .f32⟩
  | 29 => ⟨S_, .f32⟩
  | 30 => ⟨S128, .f32⟩
  | 31 => ⟨S128, .f32⟩
  | 32 => ⟨S128x1, .f32⟩
  | 33 => ⟨S128x100000, .f32⟩
  | 34 => ⟨S128x100000, .f32⟩
  | 35 => ⟨S128x100000, .f32⟩
  | 36 => ⟨S_, .f32⟩
  | 37 => ⟨S128, .f32⟩
  | 38 => ⟨S128x1, .f32⟩
  | 39 => ⟨S128x100000, .f32⟩
  | 40 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_2 : Ref sig .tc := ⟨.hbm, 13, rfl⟩
abbrev main_v9 : Ref sig .tc := ⟨.hbm, 14, rfl⟩
abbrev main_v10 : Ref sig .tc := ⟨.hbm, 15, rfl⟩
abbrev main_c_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_4 : Ref sig .tc := ⟨.hbm, 22, rfl⟩
abbrev main_v16 : Ref sig .tc := ⟨.hbm, 23, rfl⟩
abbrev main_v17 : Ref sig .tc := ⟨.hbm, 24, rfl⟩
abbrev main_c_5 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_6 : Ref sig .tc := ⟨.hbm, 31, rfl⟩
abbrev main_v23 : Ref sig .tc := ⟨.hbm, 32, rfl⟩
abbrev main_v24 : Ref sig .tc := ⟨.hbm, 33, rfl⟩
abbrev main_c_7 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_8 : Ref sig .tc := ⟨.hbm, 40, rfl⟩
abbrev main_v30 : Ref sig .tc := ⟨.hbm, 41, rfl⟩
abbrev main_v31 : Ref sig .tc := ⟨.hbm, 42, rfl⟩
abbrev main_c_9 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_10 : Ref sig .tc := ⟨.hbm, 48, rfl⟩
abbrev main_v36 : Ref sig .tc := ⟨.hbm, 49, rfl⟩
abbrev main_v37 : Ref sig .tc := ⟨.hbm, 50, rfl⟩
abbrev main_c_11 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_12 : Ref sig .tc := ⟨.hbm, 55, rfl⟩
abbrev main_v41 : Ref sig .tc := ⟨.hbm, 56, rfl⟩
abbrev main_v42 : Ref sig .tc := ⟨.hbm, 57, rfl⟩
abbrev main_c_13 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_14 : Ref sig .tc := ⟨.hbm, 64, rfl⟩
abbrev main_v48 : Ref sig .tc := ⟨.hbm, 65, rfl⟩
abbrev main_v49 : Ref sig .tc := ⟨.hbm, 66, rfl⟩
abbrev main_c_15 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_16 : Ref sig .tc := ⟨.hbm, 73, rfl⟩
abbrev main_v55 : Ref sig .tc := ⟨.hbm, 74, rfl⟩
abbrev main_v56 : Ref sig .tc := ⟨.hbm, 75, rfl⟩
abbrev main_c_17 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_18 : Ref sig .tc := ⟨.hbm, 82, rfl⟩
abbrev main_v62 : Ref sig .tc := ⟨.hbm, 83, rfl⟩
abbrev main_v63 : Ref sig .tc := ⟨.hbm, 84, rfl⟩
abbrev main_c_19 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_20 : Ref sig .tc := ⟨.hbm, 90, rfl⟩
abbrev main_v68 : Ref sig .tc := ⟨.hbm, 91, rfl⟩
abbrev main_v69 : Ref sig .tc := ⟨.hbm, 92, rfl⟩
abbrev main_c_21 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_22 : Ref sig .tc := ⟨.hbm, 97, rfl⟩
abbrev main_v73 : Ref sig .tc := ⟨.hbm, 98, rfl⟩
abbrev main_v74 : Ref sig .tc := ⟨.hbm, 99, rfl⟩
abbrev main_c_23 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_24 : Ref sig .tc := ⟨.hbm, 106, rfl⟩
abbrev main_v80 : Ref sig .tc := ⟨.hbm, 107, rfl⟩
abbrev main_v81 : Ref sig .tc := ⟨.hbm, 108, rfl⟩
abbrev main_c_25 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_26 : Ref sig .tc := ⟨.hbm, 115, rfl⟩
abbrev main_v87 : Ref sig .tc := ⟨.hbm, 116, rfl⟩
abbrev main_v88 : Ref sig .tc := ⟨.hbm, 117, rfl⟩
abbrev main_c_27 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_c_28 : Ref sig .tc := ⟨.hbm, 124, rfl⟩
abbrev main_v94 : Ref sig .tc := ⟨.hbm, 125, rfl⟩
abbrev main_v95 : Ref sig .tc := ⟨.hbm, 126, rfl⟩
abbrev main_c_29 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_c_30 : Ref sig .tc := ⟨.hbm, 132, rfl⟩
abbrev main_v100 : Ref sig .tc := ⟨.hbm, 133, rfl⟩
abbrev main_v101 : Ref sig .tc := ⟨.hbm, 134, rfl⟩
abbrev main_c_31 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_c_32 : Ref sig .tc := ⟨.hbm, 139, rfl⟩
abbrev main_v105 : Ref sig .tc := ⟨.hbm, 140, rfl⟩
abbrev main_v106 : Ref sig .tc := ⟨.hbm, 141, rfl⟩
abbrev main_c_33 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_c_34 : Ref sig .tc := ⟨.hbm, 148, rfl⟩
abbrev main_v112 : Ref sig .tc := ⟨.hbm, 149, rfl⟩
abbrev main_v113 : Ref sig .tc := ⟨.hbm, 150, rfl⟩
abbrev main_c_35 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_c_36 : Ref sig .tc := ⟨.hbm, 157, rfl⟩
abbrev main_v119 : Ref sig .tc := ⟨.hbm, 158, rfl⟩
abbrev main_v120 : Ref sig .tc := ⟨.hbm, 159, rfl⟩
abbrev main_c_37 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_c_38 : Ref sig .tc := ⟨.hbm, 166, rfl⟩
abbrev main_v126 : Ref sig .tc := ⟨.hbm, 167, rfl⟩
abbrev main_v127 : Ref sig .tc := ⟨.hbm, 168, rfl⟩
abbrev main_c_39 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_c_40 : Ref sig .tc := ⟨.hbm, 174, rfl⟩
abbrev main_v132 : Ref sig .tc := ⟨.hbm, 175, rfl⟩
abbrev main_v133 : Ref sig .tc := ⟨.hbm, 176, rfl⟩
abbrev main_c_41 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_c_42 : Ref sig .tc := ⟨.hbm, 181, rfl⟩
abbrev main_v137 : Ref sig .tc := ⟨.hbm, 182, rfl⟩
abbrev main_v138 : Ref sig .tc := ⟨.hbm, 183, rfl⟩
abbrev main_c_43 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_c_44 : Ref sig .tc := ⟨.hbm, 190, rfl⟩
abbrev main_v144 : Ref sig .tc := ⟨.hbm, 191, rfl⟩
abbrev main_v145 : Ref sig .tc := ⟨.hbm, 192, rfl⟩
abbrev main_c_45 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_c_46 : Ref sig .tc := ⟨.hbm, 199, rfl⟩
abbrev main_v151 : Ref sig .tc := ⟨.hbm, 200, rfl⟩
abbrev main_v152 : Ref sig .tc := ⟨.hbm, 201, rfl⟩
abbrev main_c_47 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_c_48 : Ref sig .tc := ⟨.hbm, 208, rfl⟩
abbrev main_v158 : Ref sig .tc := ⟨.hbm, 209, rfl⟩
abbrev main_v159 : Ref sig .tc := ⟨.hbm, 210, rfl⟩
abbrev main_c_49 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_c_50 : Ref sig .tc := ⟨.hbm, 216, rfl⟩
abbrev main_v164 : Ref sig .tc := ⟨.hbm, 217, rfl⟩
abbrev main_v165 : Ref sig .tc := ⟨.hbm, 218, rfl⟩
abbrev main_c_51 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_c_52 : Ref sig .tc := ⟨.hbm, 223, rfl⟩
abbrev main_v169 : Ref sig .tc := ⟨.hbm, 224, rfl⟩
abbrev main_v170 : Ref sig .tc := ⟨.hbm, 225, rfl⟩
abbrev main_c_53 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_cst : Ref sig .tc := ⟨.hbm, 230, rfl⟩
abbrev main_v174 : Ref sig .tc := ⟨.hbm, 231, rfl⟩
abbrev main_v175 : Ref sig .tc := ⟨.hbm, 232, rfl⟩
abbrev main_cst_54 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_cst_55 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_c_56 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_cst_57 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_cst_58 : Ref sig .tc := ⟨.hbm, 257, rfl⟩
abbrev main_call0_v0 : Ref sig .tc := ⟨.hbm, 258, rfl⟩
abbrev main_call0_v1 : Ref sig .tc := ⟨.hbm, 259, rfl⟩
abbrev main_call0_v2 : Ref sig .tc := ⟨.hbm, 260, rfl⟩
abbrev main_v196 : Ref sig .tc := ⟨.hbm, 261, rfl⟩
abbrev main_cst_59 : Ref sig .tc := ⟨.hbm, 262, rfl⟩
abbrev main_v197 : Ref sig .tc := ⟨.hbm, 263, rfl⟩
abbrev main_cst_60 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_cst_61 : Ref sig .tc := ⟨.hbm, 270, rfl⟩
abbrev main_v203 : Ref sig .tc := ⟨.hbm, 271, rfl⟩
abbrev main_v204 : Ref sig .tc := ⟨.hbm, 272, rfl⟩
abbrev main_cst_62 : Ref sig .tc := ⟨.hbm, 273, rfl⟩
abbrev main_call2_v0 : Ref sig .tc := ⟨.hbm, 274, rfl⟩
abbrev main_call2_v1 : Ref sig .tc := ⟨.hbm, 275, rfl⟩
abbrev main_v205 : Ref sig .tc := ⟨.hbm, 276, rfl⟩
abbrev main_cst_63 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_cst_64 : Ref sig .tc := ⟨.hbm, 283, rfl⟩
abbrev main_v211 : Ref sig .tc := ⟨.hbm, 284, rfl⟩
abbrev main_cst_65 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_cst_66 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩

abbrev nD : Nat := 1
abbrev τ : Topo := Topo.v7x

variable {F : FTy → Type} [FloatOps F]
-- ==== Proof.Points.lean ====
/- The kernel body's branches over the grid, and the memrefs it is handed at a point. -/
module

public import proofs.«01_k».proof.Proof.Gen.KernelIdeal.Frame
public import proofs.«01_k».proof.Proof.Gen.KernelIdeal.Skeleton

@[expose] public section

set_option maxRecDepth 16384

noncomputable section

namespace Cert.KernelIdeal.Gumbel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

/-- The first branch's condition: the sums are cleared. -/
abbrev Clears (i : grid0.Coords) : Prop :=
  (Scalar.cmpi .ne (Scalar.extui (Scalar.cmpi .eq (BitVec.ofNat 32 (i 0).val) 0#32)) 0#32) = 1#1
/-- The second branch's condition: a block is exponentiated and summed. -/
abbrev Adds (i : grid0.Coords) : Prop := k0_cond2 i = 1#1
/-- The third branch's condition: the whole array is divided by its column sums. -/
abbrev Scales (i : grid0.Coords) : Prop := k0_cond3 i = 1#1

theorem clears_iff : ∀ t : Fin cfg0.N, Clears (grid0.coords t) ↔ t.val = 0 :=
  (by decide +kernel : ∀ t : Fin grid0.N, Clears (grid0.coords t) ↔ t.val = 0)
theorem adds_iff : ∀ t : Fin cfg0.N, Adds (grid0.coords t) ↔ t.val < 25 :=
  (by decide +kernel : ∀ t : Fin grid0.N, Adds (grid0.coords t) ↔ t.val < 25)
theorem scales_iff : ∀ t : Fin cfg0.N, Scales (grid0.coords t) ↔ t.val = 25 :=
  (by decide +kernel : ∀ t : Fin grid0.N, Scales (grid0.coords t) ↔ t.val = 25)

/-- At point `t < 25` the first stored block starts at row `2000 t`. -/
theorem off1_eq : ∀ t : Fin cfg0.N, t.val < 25 → k0_off1 (grid0.coords t) = ![2000 * t.val, 0] :=
  (by decide +kernel : ∀ t : Fin grid0.N, t.val < 25 → k0_off1 (grid0.coords t) = ![2000 * t.val, 0])
/-- and the second at row `50000 + 2000 t`. -/
theorem off2_eq : ∀ t : Fin cfg0.N, t.val < 25 → k0_off2 (grid0.coords t) = ![50000 + 2000 * t.val, 0] :=
  (by decide +kernel : ∀ t : Fin grid0.N, t.val < 25 → k0_off2 (grid0.coords t) = ![50000 + 2000 * t.val, 0])

/-- The staging memref each window is on at point `t`, and that it is a whole buffer. -/
abbrev mem0 (t : Fin cfg0.N) : Memref sig .tc .vmem S2000x128 .f32 := win0_0.stage (cfg0.slots t 0)
abbrev whole0 (t : Fin cfg0.N) : (mem0 t).IsWhole := hstage0_0 ((cfg0.slots t 0).cast nbuf0_0)
abbrev mem1 (t : Fin cfg0.N) : Memref sig .tc .vmem S2000x128 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S2000x128 .i32 := win0_2.stage (cfg0.slots t 2)
abbrev whole2 (t : Fin cfg0.N) : (mem2 t).IsWhole := hstage0_2 ((cfg0.slots t 2).cast nbuf0_2)
abbrev mem3 (t : Fin cfg0.N) : Memref sig .tc .vmem S100000x128 .f32 := win0_3.stage (cfg0.slots t 3)
abbrev whole3 (t : Fin cfg0.N) : (mem3 t).IsWhole := hstage0_3 ((cfg0.slots t 3).cast nbuf0_3)
/-- The scratch holding the running sums in its first row. -/
abbrev sums : Memref sig .tc .vmem S8x128 .f32 := Memref.whole cc0_scratch0

end Cert.KernelIdeal.Gumbel

end
-- ==== Proof.Runs.lean ====
/- What one call of the kernel body leaves in the output's buffer and in the scratch, by case of its branches. -/
module

public import proofs.«01_k».proof.Proof.Points

@[expose] public section

set_option maxRecDepth 16384

noncomputable section

namespace Cert.KernelIdeal.Gumbel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
  (a1 : Memref sig .tc .vmem S2000x128 .f32) (w1 : a1.IsWhole) (a2 : Memref sig .tc .vmem S2000x128 .f32) (w2 : a2.IsWhole)
  (a3 : Memref sig .tc .vmem S2000x128 .i32) (w3 : a3.IsWhole) (a4 : Memref sig .tc .vmem S100000x128 .f32) (w4 : a4.IsWhole)
  (a5 : Memref sig .tc .vmem S8x128 .f32) (w5 : a5.IsWhole)
  (x0 x1 : Vec F S2000x128 .f32) (x2 : Vec F S2000x128 .i32) (y : Vec F S100000x128 .f32) (s : Vec F S8x128 .f32)

set_option maxHeartbeats 1000000 in
/-- The first point: the sums are cleared, then the block's exponentials are stored and its column sums added. -/
def clearRun (h0 : Clears i) (h1 : Adds i) (h2 : ¬Scales i) :
    { L : List (View.Piece (Elt F) S100000x128 .f32) × List (View.Piece (Elt F) S8x128 .f32) //
      ∀ (E : Set ℕ) (K : PUnit → sProp 𝕄),
        iprop(owns (c : Thread nD τ) a1 fullShare x0 ∗ owns (c : Thread nD τ) a2 fullShare x1 ∗ owns (c : Thread nD τ) a3 fullShare x2
            ∗ owns (c : Thread nD τ) a4 fullShare y ∗ owns (c : Thread nD τ) a5 fullShare s
            ∗ (iprop(owns (c : Thread nD τ) a1 fullShare x0 ∗ owns (c : Thread nD τ) a2 fullShare x1 ∗ owns (c : Thread nD τ) a3 fullShare x2
                ∗ (a4.view.loc (c : Thread nD τ) ↦[a4.view.set]{fullShare} a4.view.writes (Elt F) (w4.unread y) L.1)
                ∗ (a5.view.loc (c : Thread nD τ) ↦[a5.view.set]{fullShare} a5.view.writes (Elt F) (w5.unread s) L.2)) -∗ K ⟨⟩))
          ⊢ wp frame (wpE (defs₀ (F := F)) Variants.none c none) E (cc0__softmax_body i a1 w1 a2 w2 a3 w3 a4 w4 a5 w5) K } := by
  refine ⟨(?_, ?_), fun E K => ?run⟩
  case run =>
    simp only [cc0__softmax_body_eq_skeleton]; unfold cc0__softmax_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := w1.eq_unread hf0; obtain rfl := w2.eq_unread hf1; obtain rfl := w3.eq_unread hf2
    obtain rfl := w4.eq_unread hf3; obtain rfl := w5.eq_unread hf4
    sl_exec (disch := first | sl_exact h0 | sl_exact h1 | sl_exact h2)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexact H3
    iexact H4

set_option maxHeartbeats 1000000 in
/-- A point between: the block's exponentials are stored and its column sums added. The stores found by the run. -/
def addRun (h0 : ¬Clears i) (h1 : Adds i) (h2 : ¬Scales i) :
    { L : List (View.Piece (Elt F) S100000x128 .f32) × List (View.Piece (Elt F) S8x128 .f32) //
      ∀ (E : Set ℕ) (K : PUnit → sProp 𝕄),
        iprop(owns (c : Thread nD τ) a1 fullShare x0 ∗ owns (c : Thread nD τ) a2 fullShare x1 ∗ owns (c : Thread nD τ) a3 fullShare x2
            ∗ owns (c : Thread nD τ) a4 fullShare y ∗ owns (c : Thread nD τ) a5 fullShare s
            ∗ (iprop(owns (c : Thread nD τ) a1 fullShare x0 ∗ owns (c : Thread nD τ) a2 fullShare x1 ∗ owns (c : Thread nD τ) a3 fullShare x2
                ∗ (a4.view.loc (c : Thread nD τ) ↦[a4.view.set]{fullShare} a4.view.writes (Elt F) (w4.unread y) L.1)
                ∗ (a5.view.loc (c : Thread nD τ) ↦[a5.view.set]{fullShare} a5.view.writes (Elt F) (w5.unread s) L.2)) -∗ K ⟨⟩))
          ⊢ wp frame (wpE (defs₀ (F := F)) Variants.none c none) E (cc0__softmax_body i a1 w1 a2 w2 a3 w3 a4 w4 a5 w5) K } := by
  refine ⟨(?_, ?_), fun E K => ?run⟩
  case run =>
    simp only [cc0__softmax_body_eq_skeleton]; unfold cc0__softmax_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := w1.eq_unread hf0; obtain rfl := w2.eq_unread hf1; obtain rfl := w3.eq_unread hf2
    obtain rfl := w4.eq_unread hf3; obtain rfl := w5.eq_unread hf4
    sl_exec (disch := first | sl_exact h0 | sl_exact h1 | sl_exact h2)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexact H3
    iexact H4

set_option maxHeartbeats 1000000 in
/-- The last point: every stored exponential is multiplied by the reciprocal of its column's sum. -/
def scaleRun (h0 : ¬Clears i) (h1 : ¬Adds i) (h2 : Scales i) :
    { L : List (View.Piece (Elt F) S100000x128 .f32) //
      ∀ (E : Set ℕ) (K : PUnit → sProp 𝕄),
        iprop(owns (c : Thread nD τ) a1 fullShare x0 ∗ owns (c : Thread nD τ) a2 fullShare x1 ∗ owns (c : Thread nD τ) a3 fullShare x2
            ∗ owns (c : Thread nD τ) a4 fullShare y ∗ owns (c : Thread nD τ) a5 fullShare s
            ∗ (iprop(owns (c : Thread nD τ) a1 fullShare x0 ∗ owns (c : Thread nD τ) a2 fullShare x1 ∗ owns (c : Thread nD τ) a3 fullShare x2
                ∗ (a4.view.loc (c : Thread nD τ) ↦[a4.view.set]{fullShare} a4.view.writes (Elt F) (w4.unread y) L)
                ∗ owns (c : Thread nD τ) a5 fullShare s) -∗ K ⟨⟩))
          ⊢ wp frame (wpE (defs₀ (F := F)) Variants.none c none) E (cc0__softmax_body i a1 w1 a2 w2 a3 w3 a4 w4 a5 w5) K } := by
  refine ⟨?_, fun E K => ?run⟩
  case run =>
    simp only [cc0__softmax_body_eq_skeleton]; unfold cc0__softmax_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := w1.eq_unread hf0; obtain rfl := w2.eq_unread hf1; obtain rfl := w3.eq_unread hf2
    obtain rfl := w4.eq_unread hf3; obtain rfl := w5.eq_unread hf4
    sl_exec (disch := first | sl_exact h0 | sl_exact h1 | sl_exact h2)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexact H3
    iexists _; isplitr; · ipureintro; exact w5.read_unread _
    iexact H4

end Cert.KernelIdeal.Gumbel

end
-- ==== Proof.Stores.lean ====
/- What the stores of one call of the body leave, read at an index: the output's rows and the running sums. -/
module

public import proofs.«01_k».proof.Proof.Runs
import all proofs.«01_k».proof.Proof.Runs
public import Idealize.ShloMosaic.Lib.WholeRead
public import Idealize.ShloMosaic.Lib.WritesUnit
public import Idealize.ShloMosaic.Lib.Pipeline.ReadBack
public import Idealize.ShloMosaic.Lib.Pointwise.Index

@[expose] public section

set_option maxRecDepth 16384

noncomputable section

namespace Cert.KernelIdeal.Gumbel

open Idealize.ShloMosaic Idealize.ShloMosaic.TcCoe Idealize.ShloMosaic.Tactic
open Cert.KernelIdeal.Gen

variable {F : FTy → Type} [FloatOps F]

/-- The exponentials of the first half's block: the logits `x0` plus the noise in the words' low halves. -/
def lowExp (x0 : Vec F S2000x128 .f32) (x2 : Vec F S2000x128 .i32) : Vec F S2000x128 .f32 := k0_pay6 x2 x0
/-- The exponentials of the second half's block: the logits `x1` plus the noise in the words' high halves. -/
def highExp (x1 : Vec F S2000x128 .f32) (x2 : Vec F S2000x128 .i32) : Vec F S2000x128 .f32 :=
  k0_pay2 (k0_pay7 x1) (k0_pay10 x2) (k0_pay11 x2) (k0_pay12 x2)
/-- The running sums `r` after the block's column sums are added. -/
def addSums (x0 x1 : Vec F S2000x128 .f32) (x2 : Vec F S2000x128 .i32) (r : Vec F S1x128 .f32) : Vec F S1x128 .f32 :=
  k0_pay3 (lowExp x0 x2) (k0_pay7 x1) (k0_pay10 x2) (k0_pay11 x2) (k0_pay12 x2) r
/-- The scratch's first row. -/
def firstRow (s : Vec F S8x128 .f32) : Vec F S1x128 .f32 :=
  View.ld s (Rect.unit (s := S8x128) ![0, 0] S1x128.size inb_S8x128_S1x128_0_0)
/-- The running sums at the start. -/
def noSums : Vec F S1x128 .f32 := firstRow (k0_pay1 (F := F))

/-- A row of the output inside the first half's block `b`. -/
abbrev lowIx (b : ℕ) (hb : b < 25) (p : S2000x128.Idx) : S100000x128.Idx :=
  ix2 ⟨2000 * b + (p 0).val, by have := (p 0).isLt; simp at this; omega⟩ (p 1)
/-- The row of the output inside the second half's block `b`. -/
abbrev highIx (b : ℕ) (hb : b < 25) (p : S2000x128.Idx) : S100000x128.Idx :=
  ix2 ⟨50000 + 2000 * b + (p 0).val, by have := (p 0).isLt; simp at this; omega⟩ (p 1)

variable (c : Dev nD) (t : Fin cfg0.N) (ht : t.val < 25)
  (a1 : Memref sig .tc .vmem S2000x128 .f32) (w1 : a1.IsWhole) (a2 : Memref sig .tc .vmem S2000x128 .f32) (w2 : a2.IsWhole)
  (a3 : Memref sig .tc .vmem S2000x128 .i32) (w3 : a3.IsWhole) (a4 : Memref sig .tc .vmem S100000x128 .f32) (w4 : a4.IsWhole)
  (a5 : Memref sig .tc .vmem S8x128 .f32) (w5 : a5.IsWhole)
  (x0 x1 : Vec F S2000x128 .f32) (x2 : Vec F S2000x128 .i32) (y : Vec F S100000x128 .f32) (s : Vec F S8x128 .f32)

/-- A load of the whole of a whole buffer reads its contents. -/
theorem load_block {e : EltTy} (a : Memref sig .tc .vmem S2000x128 e) (w : a.IsWhole) (X : Vec F S2000x128 e) :
    View.readAt (Elt F) a.view (Rect.unit (s := S2000x128) ![0, 0] S2000x128.size inb_S2000x128_S2000x128_0_0).toLoadRect
      (w.unread X) = X := by
  funext j
  rw [w.readAt_unread]
  congr 1
  funext a
  apply Fin.ext
  fin_cases a <;> simp [LoadRect.idx, Rect.unit]

/-- The two stores of a block into the output, as a list of pieces. -/
def pieces (ht1 : ∀ a, k0_off1 (grid0.coords t) a + S2000x128.size a ≤ S100000x128.size a)
    (ht2 : ∀ a, k0_off2 (grid0.coords t) a + S2000x128.size a ≤ S100000x128.size a) :
    List (View.Piece (Elt F) S100000x128 .f32) :=
  [⟨Rect.unit (k0_off2 (grid0.coords t)) S2000x128.size ht2, highExp x1 x2⟩,
    ⟨Rect.unit (k0_off1 (grid0.coords t)) S2000x128.size ht1, lowExp x0 x2⟩]

theorem addRun_out (h0 : ¬Clears (grid0.coords t)) (h1 : Adds (grid0.coords t)) (h2 : ¬Scales (grid0.coords t)) :
    (addRun c (grid0.coords t) a1 w1 a2 w2 a3 w3 a4 w4 a5 w5 x0 x1 x2 y s h0 h1 h2).1.1
      = pieces t x0 x1 x2 (k0_off1_inb _ h1) (k0_off2_inb _ h1) := by
  unfold addRun pieces lowExp highExp
  dsimp only
  unfold addRun.sl.r addRun.sl.r_1 addRun.sl.r_2 addRun.sl.r_3 addRun.sl.r_4
  rw [load_block, load_block, load_block]

theorem clearRun_out (h0 : Clears (grid0.coords t)) (h1 : Adds (grid0.coords t)) (h2 : ¬Scales (grid0.coords t)) :
    (clearRun c (grid0.coords t) a1 w1 a2 w2 a3 w3 a4 w4 a5 w5 x0 x1 x2 y s h0 h1 h2).1.1
      = pieces t x0 x1 x2 (k0_off1_inb _ h1) (k0_off2_inb _ h1) := by
  unfold clearRun pieces lowExp highExp
  dsimp only
  unfold clearRun.sl.r clearRun.sl.r_1 clearRun.sl.r_2 clearRun.sl.r_3 clearRun.sl.r_4
  rw [load_block, load_block, load_block]

section
variable (ht1 : ∀ a, k0_off1 (grid0.coords t) a + S2000x128.size a ≤ S100000x128.size a)
    (ht2 : ∀ a, k0_off2 (grid0.coords t) a + S2000x128.size a ≤ S100000x128.size a) (f : a4.view.ty.Contents (Elt F))

/-- The first half's rows hold its block's exponentials. -/
theorem pieces_low (p : S2000x128.Idx) :
    a4.view.read (Elt F) (a4.view.writes (Elt F) f (pieces t x0 x1 x2 ht1 ht2)) (lowIx t.val ht p) = lowExp x0 x2 p := by
  have := (p 0).isLt
  simp at this
  unfold pieces
  exact (View.read_writes_cons_rows_of_not_mem (o := 50000 + 2000 * t.val) (W := 2000) _ _ _ _ _ _ (off2_eq t ht) rfl
      (Or.inl (show 2000 * t.val + (p 0).val < 50000 + 2000 * t.val by omega))).trans
    (View.read_writes_cons_rows_of_mem (o := 2000 * t.val) _ _ _ _ _ _ p (off1_eq t ht) rfl rfl)

/-- The second half's rows hold its block's exponentials. -/
theorem pieces_high (p : S2000x128.Idx) :
    a4.view.read (Elt F) (a4.view.writes (Elt F) f (pieces t x0 x1 x2 ht1 ht2)) (highIx t.val ht p) = highExp x1 x2 p := by
  unfold pieces
  exact View.read_writes_cons_rows_of_mem (o := 50000 + 2000 * t.val) _ _ _ _ _ _ p (off2_eq t ht) rfl rfl

include ht in
/-- A row outside both blocks is kept. -/
theorem pieces_keep (q : S100000x128.Idx) (hl : (q 0).val < 2000 * t.val ∨ 2000 * t.val + 2000 ≤ (q 0).val)
    (hh : (q 0).val < 50000 + 2000 * t.val ∨ 50000 + 2000 * t.val + 2000 ≤ (q 0).val) :
    a4.view.read (Elt F) (a4.view.writes (Elt F) f (pieces t x0 x1 x2 ht1 ht2)) q = a4.view.read (Elt F) f q := by
  unfold pieces
  exact (View.read_writes_cons_rows_of_not_mem (o := 50000 + 2000 * t.val) (W := 2000) _ _ _ _ _ _ (off2_eq t ht) rfl hh).trans
    (View.read_writes_cons_rows_of_not_mem (o := 2000 * t.val) (W := 2000) _ _ _ _ _ _ (off1_eq t ht) rfl hl)
end

/-- A store into the scratch's first row is read back there. -/
theorem firstRow_store (f : a5.view.ty.Contents (Elt F)) (r : Vec F S1x128 .f32) (L : List (View.Piece (Elt F) S8x128 .f32)) :
    firstRow (a5.view.read (Elt F) (a5.view.writes (Elt F) f
      (⟨Rect.unit ![0, 0] S1x128.size inb_S8x128_S1x128_0_0, r⟩ :: L))) = r := by
  funext j
  unfold firstRow View.ld
  exact View.read_writes_cons_rows_of_mem (o := 0) _ _ _ _ _ _ j rfl (by simp [LoadRect.idx, Rect.unit])
    (by simp [LoadRect.idx, Rect.unit])

theorem addRun_sums (h0 : ¬Clears (grid0.coords t)) (h1 : Adds (grid0.coords t)) (h2 : ¬Scales (grid0.coords t)) :
    firstRow (a5.view.read (Elt F) (a5.view.writes (Elt F) (w5.unread s)
      (addRun c (grid0.coords t) a1 w1 a2 w2 a3 w3 a4 w4 a5 w5 x0 x1 x2 y s h0 h1 h2).1.2)) = addSums x0 x1 x2 (firstRow s) := by
  unfold addRun
  dsimp only
  rw [firstRow_store]
  unfold addSums lowExp addRun.sl.r addRun.sl.r_1 addRun.sl.r_2 addRun.sl.r_3 addRun.sl.r_4
  rw [load_block, load_block, load_block, View.readAt_eq_ld, w5.read_unread]
  rfl

theorem clearRun_sums (h0 : Clears (grid0.coords t)) (h1 : Adds (grid0.coords t)) (h2 : ¬Scales (grid0.coords t)) :
    firstRow (a5.view.read (Elt F) (a5.view.writes (Elt F) (w5.unread s)
      (clearRun c (grid0.coords t) a1 w1 a2 w2 a3 w3 a4 w4 a5 w5 x0 x1 x2 y s h0 h1 h2).1.2)) = addSums x0 x1 x2 noSums := by
  unfold clearRun
  dsimp only
  rw [firstRow_store]
  unfold addSums lowExp clearRun.sl.r clearRun.sl.r_1 clearRun.sl.r_2 clearRun.sl.r_3 clearRun.sl.r_4 clearRun.sl.v60 clearRun.sl.H4_1
  rw [load_block, load_block, load_block, View.readCov_fill _ _ _ _ _ (by intro a; fin_cases a <;> rfl)]
  rfl

/-- At the last point the whole output becomes the scaled one. -/
theorem scaleRun_out (h0 : ¬Clears (grid0.coords t)) (h1 : ¬Adds (grid0.coords t)) (h2 : Scales (grid0.coords t)) :
    a4.view.read (Elt F) (a4.view.writes (Elt F) (w4.unread y)
      (scaleRun c (grid0.coords t) a1 w1 a2 w2 a3 w3 a4 w4 a5 w5 x0 x1 x2 y s h0 h1 h2).1) = k0_pay4 (firstRow s) y := by
  unfold scaleRun
  dsimp only
  rw [View.readAt_eq_ld, View.readAt_eq_ld, w5.read_unread, w4.read_unread]
  funext q
  refine (View.read_writes_cons_rows_of_mem (o := 0) _ _ _ _ _ _ q rfl (by simp) (by simp)).trans ?_
  unfold firstRow
  congr 2
  funext z
  unfold View.ld
  congr 1
  funext a
  apply Fin.ext
  fin_cases a <;> simp [LoadRect.idx, Rect.unit]

end Cert.KernelIdeal.Gumbel

end
-- ==== Proof.Data.lean ====
/- The pipeline's proof data: what the output's buffer and the running sums hold after each point, and that one call
of the body takes each point's state to the next. -/
module

public import proofs.«01_k».proof.Proof.Stores
public import Idealize.ShloMosaic.Lib.Pipeline.DatRel

@[expose] public section

set_option maxRecDepth 16384

noncomputable section

namespace Cert.KernelIdeal.Gumbel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points : cfg0.N = 26 := N_0

/-- The three blocks point `n` is handed, as plain arrays. -/
abbrev inA (c : Dev nD) (t : Fin cfg0.N) : Vec F S2000x128 .f32 := iblk m c 0 t
abbrev inB (c : Dev nD) (t : Fin cfg0.N) : Vec F S2000x128 .f32 := iblk m c 1 t
abbrev inW (c : Dev nD) (t : Fin cfg0.N) : Vec F S2000x128 .i32 := iblk m c 2 t

/-- The running sums before point `n`: blocks `0 … n-1` added up, nothing added past block 24. -/
def sumsAt (c : Dev nD) : (n : ℕ) → n ≤ cfg0.N → Vec F S1x128 .f32
  | 0, _ => noSums
  | n + 1, hn =>
    if n < 25 then addSums (inA m c ⟨n, hn⟩) (inB m c ⟨n, hn⟩) (inW m c ⟨n, hn⟩) (sumsAt c n (Nat.le_of_succ_le hn))
    else sumsAt c n (Nat.le_of_succ_le hn)

/-- The rows of blocks `0 … n-1`, in both halves, hold those blocks' exponentials. -/
def Filled (c : Dev nD) (n : ℕ) (Y : Vec F S100000x128 .f32) : Prop :=
  ∀ (b : Fin cfg0.N) (_ : b.val < n) (hb : b.val < 25) (p : S2000x128.Idx),
    Y (lowIx b.val hb p) = lowExp (inA m c b) (inW m c b) p ∧ Y (highIx b.val hb p) = highExp (inB m c b) (inW m c b) p

/-- What the output's buffer holds after point `t`: the blocks so far, or at the last point all of them scaled. -/
def Holds (c : Dev nD) (t : Fin cfg0.N) (X : Vec F S100000x128 .f32) : Prop :=
  if t.val < 25 then Filled m c (t.val + 1) X
  else ∃ Y, Filled m c 25 Y ∧ X = k0_pay4 (sumsAt m c 25 (by rw [points]; omega)) Y

/-- Between points: before the first the scratch at anything, afterwards its first row at the running sums. -/
def Between (c : Dev nD) : (n : ℕ) → n ≤ cfg0.N → sProp 𝕄
  | 0, _ => Pipeline.ΦA spec0 c
  | n + 1, hn => iprop((∃ s, ⌜firstRow s = sumsAt m c (n + 1) hn⌝ ∗ owns (c : Thread nD τ) sums fullShare s) ∗ (∃ r, prngReg c r))

/-- The output window is the one described by a relation. -/
def named : Fin cfg0.W → Bool := fun w => w.val == 3

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ t := Between m c t.val (Nat.le_of_lt_succ t.isLt)
  q _ := fullShare
  owed _ := 0

/-- The relation on each window's buffer after a point. -/
def rel (c : Dev nD) : (w : Fin cfg0.W) → Fin cfg0.N → ((cfg0.win w).block.Idx → Elt F (cfg0.win w).elt) → Prop
  | ⟨0, _⟩, _ => fun _ => True
  | ⟨1, _⟩, _ => fun _ => True
  | ⟨2, _⟩, _ => fun _ => True
  | ⟨3, _⟩, t => fun X => Holds m c t X

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The pipeline's data with the output window held to the relation. -/
abbrev rdat (c : Dev nD) := (dats m 0 c).toRRel named (rel m c)

/-- What the output's buffer holds when point `t` starts: every block before `t`. -/
theorem filled_of_finds (c : Dev nD) (t : Fin cfg0.N) (Y : Vec F S100000x128 .f32) (h : (rdat m c).Finds 3 t Y) :
    Filled m c t.val Y := by
  by_cases hz : t.val = 0
  · intro b hb; omega
  · have hN : t.val < 26 := lt_of_lt_of_eq t.isLt points
    have hl := ((rdat m c).finds_of_pos (w := 3) (t := t) rfl hz Y).mp h
    have hlt : t.val - 1 < cfg0.N := lt_of_lt_of_eq (show t.val - 1 < 26 by omega) points.symm
    have hf : (cfg0.win 3).flush ⟨t.val - 1, hlt⟩ ≠ true := fun h => by
      have := (flush0_3 _).mp h
      dsimp only at this
      omega
    have h' : Holds m c ⟨t.val - 1, hlt⟩ Y :=
      (dats m 0 c).toRRel_leaves (Rl := rel m c) (fgt := named) (w := 3) rfl (hl.resolve_left hf)
    unfold Holds at h'
    rw [if_pos (show t.val - 1 < 25 by omega)] at h'
    have e : t.val - 1 + 1 = t.val := by omega
    simpa only [e] using h'

/-- One more block stored. -/
theorem filled_succ (c : Dev nD) (t : Fin cfg0.N) (ht : t.val < 25) (Y X : Vec F S100000x128 .f32) (h : Filled m c t.val Y)
    (hl : ∀ p, X (lowIx t.val ht p) = lowExp (inA m c t) (inW m c t) p)
    (hh : ∀ p, X (highIx t.val ht p) = highExp (inB m c t) (inW m c t) p)
    (hk : ∀ q : S100000x128.Idx, ((q 0).val < 2000 * t.val ∨ 2000 * t.val + 2000 ≤ (q 0).val) →
      ((q 0).val < 50000 + 2000 * t.val ∨ 50000 + 2000 * t.val + 2000 ≤ (q 0).val) → X q = Y q) :
    Filled m c (t.val + 1) X := by
  intro b hb hb' p
  have hp : (p 0).val < 2000 := (p 0).isLt
  by_cases e : b.val = t.val
  · obtain rfl : b = t := Fin.ext e
    exact ⟨hl p, hh p⟩
  · have hlt : b.val < t.val := by omega
    rw [hk (lowIx b.val hb' p) (Or.inl (show 2000 * b.val + (p 0).val < 2000 * t.val by omega))
        (Or.inl (show 2000 * b.val + (p 0).val < 50000 + 2000 * t.val by omega)),
      hk (highIx b.val hb' p) (Or.inr (show 2000 * t.val + 2000 ≤ 50000 + 2000 * b.val + (p 0).val by omega))
        (Or.inl (show 50000 + 2000 * b.val + (p 0).val < 50000 + 2000 * t.val by omega))]
    exact h b hlt hb' p

end Cert.KernelIdeal.Gumbel

end
-- ==== Proof.Body.lean ====
/- One call of the kernel body takes each grid point's state to the next. -/
module

public import proofs.«01_k».proof.Proof.Data

@[expose] public section

set_option maxRecDepth 16384

noncomputable section

namespace Cert.KernelIdeal.Gumbel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first point the scratch is held at anything. -/
theorem launched_eq (c : Dev nD) :
    (Pipeline.ΦA spec0 c : sProp 𝕄)
      = iprop(iprop((∃ d, owns (c : Thread nD τ) sums fullShare d)) ∗ (∃ r, prngReg c r)) := by
  unfold Pipeline.ΦA; rw [scopedRest0_eq]; simp only [sums, owns_whole]; try rfl

theorem between_zero (c : Dev nD) (n : ℕ) (h : n ≤ cfg0.N) (hz : n = 0) : Between m c n h = Pipeline.ΦA spec0 c := by
  subst hz; rfl

theorem between_pos (c : Dev nD) (n : ℕ) (h : n ≤ cfg0.N) (hz : n ≠ 0) :
    Between m c n h = iprop((∃ s, ⌜firstRow s = sumsAt m c n h⌝ ∗ owns (c : Thread nD τ) sums fullShare s) ∗ (∃ r, prngReg c r)) := by
  cases n with
  | zero => exact absurd rfl hz
  | succ n => rfl

theorem between_castSucc (c : Dev nD) (t : Fin cfg0.N) :
    (dats m 0 c).Φ t.castSucc = Between m c t.val (Nat.le_of_lt t.isLt) := by
  dsimp only [dats]; exact Pipeline.Dat.Φ_castSucc (Between m c) t

theorem sumsAt_congr (c : Dev nD) {n n' : ℕ} (e : n = n') (h : n ≤ cfg0.N) (h' : n' ≤ cfg0.N) :
    sumsAt m c n h = sumsAt m c n' h' := by
  subst e; rfl

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ Y, ⌜(rdat m c).Finds 3 t Y⌝ ∗ owns (c : Thread nD τ) (mem3 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (mem0 t) fullShare (iblk m c 0 t)
    ∗ owns (c : Thread nD τ) (mem1 t) fullShare (iblk m c 1 t)
    ∗ owns (c : Thread nD τ) (mem2 t) fullShare (iblk m c 2 t)
    ∗ (∃ X, ⌜Holds m c t X⌝ ∗ owns (c : Thread nD τ) (mem3 t) fullShare X))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = iprop((∃ s, ⌜firstRow s = sumsAt m c (t.val + 1) t.isLt⌝ ∗ owns (c : Thread nD τ) sums fullShare s)
    ∗ (∃ r, prngReg c r)) from rfl]
  have hN : t.val < 26 := lt_of_lt_of_eq t.isLt points
  by_cases hz : t.val = 0
  · have ht : t.val < 25 := by omega
    have h0 : Clears (grid0.coords t) := (clears_iff t).mpr hz
    have h1 : Adds (grid0.coords t) := (adds_iff t).mpr ht
    have h2 : ¬Scales (grid0.coords t) := fun h => by have := (scales_iff t).mp h; omega
    rw [between_castSucc m c t, between_zero m c _ _ hz, launched_eq]
    iintro ⟨⟨⟨%s, HS⟩, Hg⟩, Ho, ⟨%d0, H0⟩, ⟨%d1, H1⟩, ⟨%d2, H2⟩, ⟨%Y, %hY, H3⟩⟩
    iapply ((clearRun c (grid0.coords t) (mem0 t) (whole0 t) (mem1 t) (whole1 t) (mem2 t) (whole2 t) (mem3 t) (whole3 t) sums (Memref.isWhole_whole _)
      (iblk m c 0 t) (iblk m c 1 t) (iblk m c 2 t) Y s h0 h1 h2).2 Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · iexists _
        isplitr
        swap
        · unfold owns; iexists _; isplitr
          swap; · iexact HS
          ipureintro; rfl
        ipureintro
        rw [clearRun_sums, sumsAt, if_pos ht]
        congr 1
        obtain ⟨n, hn⟩ := t
        obtain rfl : n = 0 := hz
        rfl
      iexact Hg
    isplitl [Ho]; · iexact Ho
    isplitl [H0]; · iexact H0
    isplitl [H1]; · iexact H1
    isplitl [H2]; · iexact H2
    iexists _
    isplitr
    swap
    · unfold owns; iexists _; isplitr
      swap; · iexact H3
      ipureintro; rfl
    ipureintro
    rw [clearRun_out]
    unfold Holds
    rw [if_pos ht]
    exact filled_succ m c t ht Y _ (filled_of_finds m c t Y hY) (pieces_low t ht _ _ _ _ _ _ _) (pieces_high t ht _ _ _ _ _ _ _)
      fun q hl hh => (pieces_keep t ht _ _ _ _ _ _ _ q hl hh).trans (congrFun ((whole3 t).read_unread Y) q)
  · have h0 : ¬Clears (grid0.coords t) := fun h => hz ((clears_iff t).mp h)
    rw [between_castSucc m c t, between_pos m c _ _ hz]
    by_cases ht : t.val < 25
    · have h1 : Adds (grid0.coords t) := (adds_iff t).mpr ht
      have h2 : ¬Scales (grid0.coords t) := fun h => by have := (scales_iff t).mp h; omega
      iintro ⟨⟨⟨%s, %hs, HS⟩, Hg⟩, Ho, ⟨%d0, H0⟩, ⟨%d1, H1⟩, ⟨%d2, H2⟩, ⟨%Y, %hY, H3⟩⟩
      iapply ((addRun c (grid0.coords t) (mem0 t) (whole0 t) (mem1 t) (whole1 t) (mem2 t) (whole2 t) (mem3 t) (whole3 t) sums (Memref.isWhole_whole _)
        (iblk m c 0 t) (iblk m c 1 t) (iblk m c 2 t) Y s h0 h1 h2).2 Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexists _
          isplitr
          swap
          · unfold owns; iexists _; isplitr
            swap; · iexact HS
            ipureintro; rfl
          ipureintro
          rw [addRun_sums, sumsAt, if_pos ht, hs]
        iexact Hg
      isplitl [Ho]; · iexact Ho
      isplitl [H0]; · iexact H0
      isplitl [H1]; · iexact H1
      isplitl [H2]; · iexact H2
      iexists _
      isplitr
      swap
      · unfold owns; iexists _; isplitr
        swap; · iexact H3
        ipureintro; rfl
      ipureintro
      rw [addRun_out]
      unfold Holds
      rw [if_pos ht]
      exact filled_succ m c t ht Y _ (filled_of_finds m c t Y hY) (pieces_low t ht _ _ _ _ _ _ _) (pieces_high t ht _ _ _ _ _ _ _)
        fun q hl hh => (pieces_keep t ht _ _ _ _ _ _ _ q hl hh).trans (congrFun ((whole3 t).read_unread Y) q)
    · have h25 : t.val = 25 := by omega
      have h1 : ¬Adds (grid0.coords t) := fun h => ht ((adds_iff t).mp h)
      have h2 : Scales (grid0.coords t) := (scales_iff t).mpr h25
      iintro ⟨⟨⟨%s, %hs, HS⟩, Hg⟩, Ho, ⟨%d0, H0⟩, ⟨%d1, H1⟩, ⟨%d2, H2⟩, ⟨%Y, %hY, H3⟩⟩
      iapply ((scaleRun c (grid0.coords t) (mem0 t) (whole0 t) (mem1 t) (whole1 t) (mem2 t) (whole2 t) (mem3 t) (whole3 t) sums (Memref.isWhole_whole _)
        (iblk m c 0 t) (iblk m c 1 t) (iblk m c 2 t) Y s h0 h1 h2).2 Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexists s
          isplitr
          swap
          · iexact HS
          ipureintro
          rw [sumsAt, if_neg ht, hs]
        iexact Hg
      isplitl [Ho]; · iexact Ho
      isplitl [H0]; · iexact H0
      isplitl [H1]; · iexact H1
      isplitl [H2]; · iexact H2
      iexists _
      isplitr
      swap
      · unfold owns; iexists _; isplitr
        swap; · iexact H3
        ipureintro; rfl
      ipureintro
      rw [scaleRun_out]
      unfold Holds
      rw [if_neg ht]
      refine ⟨Y, ?_, ?_⟩
      · have := filled_of_finds m c t Y hY
        rwa [h25] at this
      · rw [hs]
        exact congrArg (fun r => k0_pay4 r Y) (sumsAt_congr m c h25 _ _)

theorem defs₀_row (t : Fin cfg0.N) :
    defs₀ (F := F) .tc cfg0.body (cfg0.bodyArgs t (cfg0.slots t)) = bodyAt0 t := by
  unfold defs₀; rw [Defs.onTc_tc]

attribute [local irreducible] iblk in
theorem body_rel (c : Dev nD) : BodyObligationRel (dats (F := F) m 0 c) (defs₀ (F := F)) Variants.none () Set.univ named (rel m c) := fun t => by
  rw [bigSep_W0, bigSep_W0, defs₀_row]
  exact triple_restated (sound_body m c t) rfl .rfl fun _ => .rfl

theorem body_obligation (c : Dev nD) : (rdat m c).BodyObligation (defs₀ (F := F)) Variants.none () Set.univ :=
  (body_rel m c).toRRel

/-- What the launch hands the region is the state before the first point. -/
theorem hin (c : Dev nD) : Pipeline.ΦA spec0 c ⊢ (dats m 0 c).Φ 0 := by
  rw [show (dats m 0 c).Φ 0 = Between m c 0 (Nat.zero_le _) from rfl, between_zero m c 0 _ rfl]
  try exact Idealize.SL.BI.Entails.refl _

/-- After the last point the scratch is given back at some contents. -/
theorem hout (c : Dev nD) : (dats m 0 c).Φ (Fin.last cfg0.N) ⊢ Pipeline.ΦA spec0 c := by
  rw [show (dats m 0 c).Φ (Fin.last cfg0.N) = Between m c cfg0.N le_rfl from rfl,
    between_pos m c _ _ (by rw [points]; omega), launched_eq]
  iintro ⟨⟨%s, %hs, HS⟩, Hg⟩
  isplitl [HS]
  · iexists s; iexact HS
  iexact Hg

end Cert.KernelIdeal.Gumbel

end
-- ==== Proof.Launch.lean ====
/- A launch whose arrays are determined: when every array's final contents are known, the host lines after the region
run over those contents, and every buffer's final contents follow. -/
module

public import Idealize.ShloMosaic.Lib.Pipeline.FrameSuffix

@[expose] public section

noncomputable section

namespace Cert.KernelIdeal.Gumbel

open Idealize.ShloMosaic Idealize.ShloMosaic.Pipeline Idealize.ShloMosaic.Rounds
open Idealize.SL
open Idealize.SL.BI (sProp bigSep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (pcs : P → PCfg sig Λ₀ Val) (a : (p : P) → (pcs p).Adm) (p : P) (kit : PLaunchFacts₀ (nD := nD) (τ := τ) pcs p)
  (defs₀ : Defs nD τ sig Val Λ₀) (𝒱₀ : Variants)
  (rdat : (c : Dev nD) → RDat τ Val Unit ℕ (UR sig nD τ) ℕ (pin pcs a p) c)
  (fin : (c : Dev nD) → (w : Fin (pin pcs a p).W) → Buf Val (((pin pcs a p).spec w).arr.view.loc (c.tc : Thread nD τ)))

/-- The arrays at the region's exit, when only one final contents is possible for each. -/
theorem arrays_exit (hfin : ∀ c w G, (rdat c).ArrAt w (pin pcs a p).N G → G = fin c w) (c : Dev nD) :
    ((rdat c).arraysAt (pin pcs a p).N : sProp 𝕄)
      ⊢ iprop(⌜∀ w, (rdat c).ArrAt w (pin pcs a p).N (fin c w)⌝ ∗ (rdat c).arrays (fin c)) := by
  unfold RDat.arraysAt RDat.arrays
  have h : (bigSep Finset.univ fun w : Fin (pin pcs a p).W =>
        iprop(∃ F, ⌜(rdat c).ArrAt w (pin pcs a p).N F⌝
          ∗ ((pin pcs a p).win w).arr.view.loc (c.tc : Thread nD τ) ↦[((pin pcs a p).win w).arr.view.set]{(rdat c).share w} F) : sProp 𝕄)
      ⊢ bigSep Finset.univ fun w : Fin (pin pcs a p).W =>
        iprop(⌜(rdat c).ArrAt w (pin pcs a p).N (fin c w)⌝
          ∗ ((pin pcs a p).win w).arr.view.loc (c.tc : Thread nD τ) ↦[((pin pcs a p).win w).arr.view.set]{(rdat c).share w} fin c w) := by
    refine BI.bigSep_mono fun w _ => ?_
    show (iprop(∃ F, ⌜(rdat c).ArrAt w (pin pcs a p).N F⌝
        ∗ ((pin pcs a p).win w).arr.view.loc (c.tc : Thread nD τ) ↦[((pin pcs a p).win w).arr.view.set]{(rdat c).share w} F) : sProp 𝕄)
      ⊢ iprop(⌜(rdat c).ArrAt w (pin pcs a p).N (fin c w)⌝
        ∗ ((pin pcs a p).win w).arr.view.loc (c.tc : Thread nD τ) ↦[((pin pcs a p).win w).arr.view.set]{(rdat c).share w} fin c w)
    iintro ⟨%F, %hF, H⟩
    obtain rfl := hfin c w F hF
    isplitr; · ipureintro; exact hF
    iexact H
  refine h.trans ?_
  iintro Ha
  ihave Hb := (BI.bigSep_pure_sep Finset.univ (fun w => (rdat c).ArrAt w (pin pcs a p).N (fin c w))
    (fun w => ((pin pcs a p).win w).arr.view.loc (c.tc : Thread nD τ) ↦[((pin pcs a p).win w).arr.view.set]{(rdat c).share w} fin c w)) $$ Ha
  icases Hb with ⟨%hA, Ha⟩
  isplitr; · ipureintro; exact fun w => hA w (Finset.mem_univ w)
  iexact Ha

/-- And the same read backwards. -/
theorem arrays_entry (c : Dev nD) (h : ∀ w, (rdat c).ArrAt w (pin pcs a p).N (fin c w)) :
    ((rdat c).arrays (fin c) : sProp 𝕄) ⊢ (rdat c).arraysAt (pin pcs a p).N := by
  unfold RDat.arraysAt RDat.arrays
  refine BI.bigSep_mono fun w _ => ?_
  show (((pin pcs a p).win w).arr.view.loc (c.tc : Thread nD τ) ↦[((pin pcs a p).win w).arr.view.set]{(rdat c).share w} fin c w : sProp 𝕄)
    ⊢ iprop(∃ F, ⌜(rdat c).ArrAt w (pin pcs a p).N F⌝
        ∗ ((pin pcs a p).win w).arr.view.loc (c.tc : Thread nD τ) ↦[((pin pcs a p).win w).arr.view.set]{(rdat c).share w} F)
  iintro H; iexists (fin c w); isplitr; · ipureintro; exact h w
  iexact H

include kit in
/-- The launch: every array ends at the one contents possible, every other unscoped buffer at what the lines after the
region leave over those arrays, every semaphore at zero. -/
theorem launch_determined (hfin : ∀ c w G, (rdat c).ArrAt w (pin pcs a p).N G → G = fin c w)
    (m : (ℓ : Loc nD τ sig) → Buf Val ℓ) (g : Dev nD → PrngReg)
    (main : Dev nD → Prog (TpuEff nD τ sig Val (Sig Λ₀ P fun p => (pcs p).Adm) .tc) PUnit)
    (hbody : ∀ c, (rdat c).BodyObligation defs₀ 𝒱₀ () Set.univ)
    (hq : ∀ c w, ((pin pcs a p).spec w).isOut = false → (rdat c).q w = shareOf (pin pcs a p).spec w)
    (howed : ∀ c t, (rdat c).owed t = 0)
    (V₀ : Dev nD → Valuation τ sig Val) (opss : List (List (HloOp τ sig Val)))
    (hsub : ∀ ops ∈ opss, ∀ op ∈ ops, op.bufs ⊆ tailRefs sig (pcs p).pre (pin pcs a p).spec)
    (hfresh : ∀ ops ∈ opss, ∀ op ∈ ops, op.fresh = ∅)
    (hkeep : ∀ ops ∈ opss, ∀ op ∈ ops, ∀ w, Proc.devRef .tc (arrRef (pin pcs a p).spec w) ∉ op.writes)
    (hmain : HMainPK (Ix := Unit) (Name := ℕ) (U := UR sig nD τ) (Lvl := ℕ) pcs p defs₀ 𝒱₀ m main
      (fun c b => V₀ c (Proc.devRef .tc b)) (fun _ => chain (opss.map StableHlo.seq)))
    (hA : ∀ c w, (rdat c).A w = V₀ c (Proc.devRef .tc (arrRef (pin pcs a p).spec w)))
    (hpf : ∀ c k, V₀ c (Proc.devRef .tc ((pcs p).pre.ref k)) = (a p).1 k)
    (hin : ∀ c, iprop(ΦA (pin pcs a p).spec c ∗ ΦT (pcs p).pre (a p).1 c) ⊢ (rdat c).Φ 0)
    (hout : ∀ c, (rdat c).Φ (Fin.last (pin pcs a p).N) ⊢ ΦA (pin pcs a p).spec c) :
    θ_run (Pipeline.defs pcs defs₀) (onTc main) (s₀ m g) (fun r =>
      (∀ c : Dev nD, (∀ w, r.2.mem (((pin pcs a p).spec w).arr.view.loc (c.tc : Thread nD τ)) = fin c w)
        ∧ ∀ b ∈ restRefsP sig (pcs p).pre (pin pcs a p).spec, r.2.mem ((c.tc : Thread nD τ).loc b)
          = StableHlo.after opss.flatten (withArrays (pin pcs a p).spec c (V₀ c) (fin c)) (Proc.devRef .tc b))
      ∧ r.2.sem = fun _ => 0) := by
  classical
  let W : (c : Dev nD) → (b : Ref sig .tc) → Buf Val ((c.tc : Thread nD τ).loc b) := fun c b =>
    StableHlo.after opss.flatten (withArrays (pin pcs a p).spec c (V₀ c) (fin c)) (Proc.devRef .tc b)
  exact RDat.θ_run_region_pf_tail_quiescent pcs a (RDat.familyOf pcs a p rdat) () (kit.cellOf_inj a) p kit.win
    (OwnSemFacts.none (pin pcs a p).spec) kit.pre emb₁ defs₀ 𝒱₀ m g main
    (fun _ => chain (opss.map StableHlo.seq)) (fun c => by rw [RDat.familyOf_self]; exact hbody c)
    kit.block_pos kit.arr_whole kit.stage_whole (fun c t => by rw [RDat.familyOf_self]; exact howed c t)
    (G := fun _ => iprop(emp)) (u₀ := initOf (cells (pin pcs a) (kit.cellOf_inj a)) (launchToks (pin pcs a) (kit.cellOf_inj a)))
    (hu₀ := by
      iintro Hu; imodintro
      isplitl [Hu]
      · iapply (show (ownU _ : sProp 𝕄) ⊢ BI.own (emb₁ (initOf (cells (pin pcs a) (kit.cellOf_inj a)) (launchToks (pin pcs a) (kit.cellOf_inj a)))) from .rfl)
        iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := fun c => by
      rw [RDat.familyOf_self]
      exact (rdat c).arrays_split_shared kit.sharedIn kit.arr_whole (hq c) _ _ (hA c))
    (hpf := hpf)
    (X := fun c => iprop(∃ r, prngReg c r)) (Y := fun c => iprop(∃ r, prngReg c r))
    (Z := fun c => unscopedRestP (Ix := Unit) (Name := ℕ) (U := UR sig nD τ) (Lvl := ℕ) (pcs p).pre (pin pcs a p).spec c
      (fun b => V₀ c (Proc.devRef .tc b)))
    (Z' := fun c => unscopedRestP (Ix := Unit) (Name := ℕ) (U := UR sig nD τ) (Lvl := ℕ) (pcs p).pre (pin pcs a p).spec c (W c))
    (hX := fun c => by
      iintro ⟨HU, -, -, Hp, -⟩; imodintro
      isplitl [Hp]; · iexists _; iexact Hp
      iexact HU)
    (hin := fun c => by
      rw [RDat.familyOf_self]
      refine Entails.trans ?_ (hin c)
      unfold ΦA ΦT
      iintro ⟨Hp, Ht, Hr⟩
      isplitr [Ht]
      · isplitl [Hr] <;> iassumption
      · iexact Ht)
    (hout := fun c => by
      rw [RDat.familyOf_self]
      refine (hout c).trans ?_
      rw [ownSems0_none]; unfold ΦA
      iintro ⟨Hr, Hp⟩
      isplitl [Hp]; · iexact Hp
      isplitr; · iempintro
      iexact Hr)
    (htail := fun c Q' => by
      rw [RDat.familyOf_self]
      iintro ⟨Hk, Hb, Ha, HZ⟩
      ihave Ha' := (arrays_exit pcs a p rdat fin hfin c) $$ Ha
      icases Ha' with ⟨%hfinal, Ha⟩
      have hB : (rdat c).arrays (fin c)
          = arrBufs (pin pcs a p).spec c (fun b => withArrays (pin pcs a p).spec c (V₀ c) (fin c) (Proc.devRef .tc b)) :=
        ((rdat c).arrBufs_eq_arrays kit.sharedIn kit.arr_whole (hq c) _ (fin c) fun w =>
          (withArrays_arr_shared (pin pcs a p).spec c (V₀ c) (fin c)
            ((rdat c).ArrAt_sharedIn kit.sharedIn (V₀ c) (hA c) (pin pcs a p).N (fin c) hfinal) w).symm).symm
      iapply (tail_seqs_bufs_b pcs defs₀ 𝒱₀ (pcs p).pre (pin pcs a p).spec c (V₀ c) (fin c) opss hsub hfresh hkeep Q')
      isplitl [Hk]
      · iintro ⟨Hb2, Ha2, Hu⟩
        iapply Hk
        isplitl [Hb2]; · iexact Hb2
        isplitl [Ha2]
        · iapply (arrays_entry pcs a p rdat fin c hfinal)
          iapply (Entails.of_eq hB.symm)
          iexact Ha2
        iexact Hu
      · isplitl [Hb]; · iexact Hb
        isplitl [Ha]; · iapply (Entails.of_eq hB); iexact Ha
        iexact HZ)
    (QY := fun c s => ∀ b ∈ restRefsP sig (pcs p).pre (pin pcs a p).spec, s.mem ((c.tc : Thread nD τ).loc b) = W c b)
    (hY := fun c s' => by
      iintro ⟨-, HU, HSI⟩
      unfold unscopedRestP
      imodintro
      iapply (pointsTo_read_all (restRefsP sig (pcs p).pre (pin pcs a p).spec) (fun b => (c.tc : Thread nD τ).loc b) (W c) s')
      isplitl [HU] <;> iassumption)
    (hQ := fun s h hz => ⟨fun c => ⟨fun w => hfin c w _ (by simpa only [RDat.familyOf_self] using (h c).1 w), (h c).2.2⟩, hz⟩)

end Cert.KernelIdeal.Gumbel

end
-- ==== Proof.Final.lean ====
/- What the program leaves: the kernel's output array, its transpose, and the argument unchanged. -/
module

public import proofs.«01_k».proof.Proof.Body
public import proofs.«01_k».proof.Proof.Launch
public import Idealize.ShloMosaic.Lib.Pipeline.ArrRel
public import Idealize.ShloMosaic.Lib.Claim

@[expose] public section

set_option maxRecDepth 16384

noncomputable section

namespace Cert.KernelIdeal.Gumbel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf RDat)
open Cert.KernelIdeal.Gen

variable {F : FTy → Type} [FloatOps F]

variable (m : (ℓ : Loc nD τ sig) → Buf (Elt F) ℓ) (ρ : Dev nD → PrngReg)

theorem lt_points {b : ℕ} (h : b < 25) : b < cfg0.N := lt_of_lt_of_eq (by omega : b < 26) points.symm

/-- Every exponential, in its row: the first half's rows from the low halves of the words, the second's from the high. -/
def exps (c : Dev nD) : Vec F S100000x128 .f32 := fun q =>
  if h : (q 0).val < 50000 then
    lowExp (inA m c ⟨(q 0).val / 2000, lt_points (by omega)⟩) (inW m c ⟨(q 0).val / 2000, lt_points (by omega)⟩)
      (ix2 ⟨(q 0).val % 2000, Nat.mod_lt _ (by omega)⟩ (q 1))
  else
    highExp (inB m c ⟨((q 0).val - 50000) / 2000, lt_points (by have : (q 0).val < 100000 := (q 0).isLt; omega)⟩)
      (inW m c ⟨((q 0).val - 50000) / 2000, lt_points (by have : (q 0).val < 100000 := (q 0).isLt; omega)⟩)
      (ix2 ⟨((q 0).val - 50000) % 2000, Nat.mod_lt _ (by omega)⟩ (q 1))

/-- With every block stored the buffer is determined. -/
theorem filled_all (c : Dev nD) (Y : Vec F S100000x128 .f32) (h : Filled m c 25 Y) : Y = exps m c := by
  funext q
  unfold exps
  have hq : (q 0).val < 100000 := (q 0).isLt
  by_cases hl : (q 0).val < 50000
  · rw [dif_pos hl]
    have hb : (q 0).val / 2000 < 25 := by omega
    rw [← (h ⟨(q 0).val / 2000, lt_points hb⟩ hb hb (ix2 ⟨(q 0).val % 2000, Nat.mod_lt _ (by omega)⟩ (q 1))).1]
    refine congrArg Y (funext fun a => Fin.ext ?_)
    fin_cases a
    · show (q 0).val = 2000 * ((q 0).val / 2000) + (q 0).val % 2000
      omega
    · rfl
  · rw [dif_neg hl]
    have hb : ((q 0).val - 50000) / 2000 < 25 := by omega
    rw [← (h ⟨((q 0).val - 50000) / 2000, lt_points hb⟩ hb hb (ix2 ⟨((q 0).val - 50000) % 2000, Nat.mod_lt _ (by omega)⟩ (q 1))).2]
    refine congrArg Y (funext fun a => Fin.ext ?_)
    fin_cases a
    · show (q 0).val = 50000 + 2000 * (((q 0).val - 50000) / 2000) + ((q 0).val - 50000) % 2000
      omega
    · rfl

/-- The kernel's output: every exponential scaled by the reciprocal of its column's sum. -/
def output (c : Dev nD) : Vec F S100000x128 .f32 :=
  k0_pay4 (sumsAt m c 25 (by rw [points]; omega)) (exps m c)

/-- Each array's contents at the end. -/
def fin (c : Dev nD) (w : Fin cfg0.W) : Buf (Elt F) ((spec0 w).arr.view.loc (c.tc : Thread nD τ)) :=
  match w with
  | ⟨0, _⟩ => V m c main_v227
  | ⟨1, _⟩ => V m c main_v228
  | ⟨2, _⟩ => V m c main_v226
  | ⟨3, _⟩ => output m c

attribute [local irreducible] iblk StableHlo.after in
theorem fin_unique (c : Dev nD) (w : Fin cfg0.W) (G) (h : (rdat m c).ArrAt w cfg0.N G) : G = fin m c w := by
  fin_cases w
  · have := h; rw [RDat.ArrAt_in _ _ rfl] at this; exact this
  · have := h; rw [RDat.ArrAt_in _ _ rfl] at this; exact this
  · have := h; rw [RDat.ArrAt_in _ _ rfl] at this; exact this
  · obtain ⟨X, hX, hj⟩ := RDat.ArrAt.emb_eq_of_wholeAt h (t₀ := ⟨25, by rw [points]; omega⟩) (by decide +kernel)
    have hX' : Holds m c ⟨25, by rw [points]; omega⟩ X :=
      (dats m 0 c).toRRel_leaves (Rl := rel m c) (fgt := named) (w := 3) rfl hX
    unfold Holds at hX'
    rw [if_neg (by simp)] at hX'
    obtain ⟨Y, hY, rfl⟩ := hX'
    obtain rfl := filled_all m c Y hY
    funext j
    exact hj j

set_option backward.isDefEq.respectTransparency.types false in
set_option maxHeartbeats 800000 in
/-- The run: every array at its final contents, every other unscoped buffer at what the last transpose leaves. -/
theorem run : θ_run defs (onTc (τ := τ) (main (F := F))) (s₀ m ρ) (fun r =>
      (∀ c : Dev nD, (∀ w, r.2.mem ((spec0 w).arr.view.loc (c.tc : Thread nD τ)) = fin m c w)
        ∧ ∀ b ∈ Pipeline.restRefsP sig Pipeline.Prefetch.none spec0, r.2.mem ((c.tc : Thread nD τ).loc b)
          = StableHlo.after [hostOps1].flatten (Pipeline.withArrays spec0 c (V0 m c) (fin m c)) (Proc.devRef .tc b))
      ∧ r.2.sem = fun _ => 0) :=
  launch_determined (fun q => (cfgs q).toPCfg (Val := Elt F)) (fun q => (cfgs q).toPCfg_adm) (0 : Fin 1) launch0.to₀.toP defs₀ Variants.none
    (fun c => rdat m c) (fin m) (fin_unique m) m ρ main (body_obligation m)
    (fun c w hw => (rdat m c).q_eq_shareOf_of_share_full launch0.win.arr_inj (fun w => (dats m 0 c).share_full (fun _ => rfl) w) w hw)
    (fun _ _ => rfl) (V0 m) [hostOps1]
    sfx_sub sfx_fresh sfx_keeps (hmain m Variants.none) (A_eq m) (fun _ k => k.elim0)
    (fun c => (show _ ⊢ Pipeline.ΦA spec0 c from by iintro ⟨H, -⟩; iexact H).trans (hin m c)) (hout m)

/-- The argument ends unchanged and the result is the kernel's output transposed. -/
theorem run_result : θ_run defs (onTc (τ := τ) (main (F := F))) ⟨m, fun _ => 0, ρ⟩ (fun r =>
      (∀ c : Dev nD,
        r.2.mem ((c.tc : Thread nD τ).loc main_v230) = transpose S128x100000 [1, 0] (output m c) transposes_S100000x128_S128x100000_1_0
        ∧ r.2.mem ((c.tc : Thread nD τ).loc main_arg0) = m ((c.tc : Thread nD τ).loc main_arg0))
      ∧ r.2.sem = fun _ => 0) :=
  (θ_run defs _ _).mono (fun r h => ⟨fun c => by
    have hr := (h.1 c).2
    have hin : ∀ b : Ref sig .tc, b ∈ Pipeline.restRefs sig spec0 → b ∈ Pipeline.restRefsP sig Pipeline.Prefetch.none spec0 :=
      fun b hb => Finset.mem_sdiff.mpr ⟨hb, fun hk => by
        obtain ⟨k, -, -⟩ := Finset.mem_image.mp hk
        exact k.elim0⟩
    have e3 := hr main_v230 (hin _ (Pipeline.mem_restRefs_of main_v230 (by decide) (by decide)))
    have e0 := hr main_arg0 (hin _ (Pipeline.mem_restRefs_of main_arg0 (by decide) (by decide)))
    refine ⟨e3.trans ?_, e0.trans ?_⟩
    · have hw := Pipeline.withArrays_arr spec0 launch0.win.arr_inj c (V0 m c) (fin m c) 3
      simp only [List.flatten_cons, List.flatten_nil, List.append_nil]
      after_results
      exact congrArg (fun a => transpose S128x100000 [1, 0] a transposes_S100000x128_S128x100000_1_0) hw
    · rw [StableHlo.after_of_forall_not_mem (b := Proc.devRef .tc main_arg0) _ _ (List.forall_iff_forall_mem.mp (by
          simp only [hostOps1, List.flatten_cons, List.flatten_nil, List.append_nil, List.cons_append,
            List.nil_append, List.Forall, StableHlo.unary_writes, Finset.mem_singleton]
          exact StableHlo.devRef_ne_of_ne (by decide))),
        Pipeline.withArrays_of_ne _ c (V0 m c) _ main_arg0 (by exact (by decide : ∀ w, Pipeline.arrRef spec0 w ≠ main_arg0))]
      exact V_main_arg0 m c, h.2⟩) (run m ρ)

end Cert.KernelIdeal.Gumbel

end
-- ==== Proof.Stage.lean ====
/- The operations on the host before the call, taken a stretch at a time. -/
module

public import proofs.«01_k».proof.Proof.Gen.KernelIdeal.Frame
public import proofs.«01_k».proof.Proof.Gen.ReferenceIdeal.Run
public import Idealize.ShloMosaic.Lib.Pointwise
public import Idealize.ShloMosaic.PureOps.Ideal

@[expose] public section

set_option maxRecDepth 16384

noncomputable section

namespace Cert.KernelIdeal.Gumbel

open Idealize.ShloMosaic Idealize.ShloMosaic.TcCoe Idealize.ShloMosaic.Tactic
open Cert.KernelIdeal Cert.KernelIdeal.Gen

/-- An array of the reference's shape with its two axes exchanged. -/
def turned {α : Type} (r : Cert.ReferenceIdeal.S128x100000.Idx → α) : S100000x128.Idx → α := fun q => r (ix2 (q 1) (q 0))

theorem turned_apply {α : Type} (r : Cert.ReferenceIdeal.S128x100000.Idx → α) (i : Fin 100000) (l : Fin 128) :
    turned r (ix2 i l) = r (ix2 l i) := rfl

/-- The contents of the buffers after the first `k` operations. -/
def stage (W : Valuation τ sig (Elt Ideal)) (k : ℕ) : Valuation τ sig (Elt Ideal) := StableHlo.after (hostOps0.take k) W

/-- Two stretches after one another. -/
theorem after_both (l r : List (HloOp τ sig (Elt Ideal))) (W : Valuation τ sig (Elt Ideal)) :
    StableHlo.after (l ++ r) W = StableHlo.after r (StableHlo.after l W) := by
  induction l generalizing W with
  | nil => rfl
  | cons o l h => exact h _

theorem stage_add (W : Valuation τ sig (Elt Ideal)) (a b : ℕ) :
    stage W (a + b) = StableHlo.after ((hostOps0.drop a).take b) (stage W a) := by
  unfold stage
  rw [List.take_add]
  exact after_both _ _ _

end Cert.KernelIdeal.Gumbel

end
-- ==== Proof.Words1.lean ====
/- The first rounds of the random words: the kernel holds what the reference holds, with the axes exchanged. -/
module

public import proofs.«01_k».proof.Proof.Stage

@[expose] public section

set_option maxRecDepth 16384

noncomputable section

namespace Cert.KernelIdeal.Gumbel

open Idealize.ShloMosaic Idealize.ShloMosaic.TcCoe Idealize.ShloMosaic.Tactic
open Cert.KernelIdeal Cert.KernelIdeal.Gen

variable (W : Valuation τ sig (Elt Ideal)) (U : Valuation Cert.ReferenceIdeal.τ Cert.ReferenceIdeal.sig (Elt Ideal))

theorem words_14 (hx : (stage W 12 (Proc.devRef .tc main_v7) : IVec S100000x128 32) = turned (Cert.ReferenceIdeal.Value.res_main_v7 U))
    (hy : (stage W 12 (Proc.devRef .tc main_v8) : IVec S100000x128 32) = turned (Cert.ReferenceIdeal.Value.res_main_v8 U)) :
    (stage W 21 (Proc.devRef .tc main_v14) : IVec S100000x128 32) = turned (Cert.ReferenceIdeal.Value.res_main_v14 U)
      ∧ (stage W 21 (Proc.devRef .tc main_v15) : IVec S100000x128 32) = turned (Cert.ReferenceIdeal.Value.res_main_v15 U) := by
  rw [show (21 : ℕ) = 12 + 9 from rfl, stage_add]
  generalize stage W 12 = σ at hx hy ⊢
  simp only [hostOps0, List.drop_succ_cons, List.drop_zero, List.take_succ_cons, List.take_zero]
  constructor
  · after_results
    rw [hx, hy, Cert.ReferenceIdeal.Value.res_main_v14]
    rfl
  · after_results
    rw [hx, hy, Cert.ReferenceIdeal.Value.res_main_v15, Cert.ReferenceIdeal.Value.res_main_v14]
    rfl

theorem words_21 (hx : (stage W 21 (Proc.devRef .tc main_v14) : IVec S100000x128 32) = turned (Cert.ReferenceIdeal.Value.res_main_v14 U))
    (hy : (stage W 21 (Proc.devRef .tc main_v15) : IVec S100000x128 32) = turned (Cert.ReferenceIdeal.Value.res_main_v15 U)) :
    (stage W 30 (Proc.devRef .tc main_v21) : IVec S100000x128 32) = turned (Cert.ReferenceIdeal.Value.res_main_v21 U)
      ∧ (stage W 30 (Proc.devRef .tc main_v22) : IVec S100000x128 32) = turned (Cert.ReferenceIdeal.Value.res_main_v22 U) := by
  rw [show (30 : ℕ) = 21 + 9 from rfl, stage_add]
  generalize stage W 21 = σ at hx hy ⊢
  simp only [hostOps0, List.drop_succ_cons, List.drop_zero, List.take_succ_cons, List.take_zero]
  constructor
  · after_results
    rw [hx, hy, Cert.ReferenceIdeal.Value.res_main_v21]
    rfl
  · after_results
    rw [hx, hy, Cert.ReferenceIdeal.Value.res_main_v22, Cert.ReferenceIdeal.Value.res_main_v21]
    rfl

theorem words_28 (hx : (stage W 30 (Proc.devRef .tc main_v21) : IVec S100000x128 32) = turned (Cert.ReferenceIdeal.Value.res_main_v21 U))
    (hy : (stage W 30 (Proc.devRef .tc main_v22) : IVec S100000x128 32) = turned (Cert.ReferenceIdeal.Value.res_main_v22 U)) :
    (stage W 39 (Proc.devRef .tc main_v28) : IVec S100000x128 32) = turned (Cert.ReferenceIdeal.Value.res_main_v28 U)
      ∧ (stage W 39 (Proc.devRef .tc main_v29) : IVec S100000x128 32) = turned (Cert.ReferenceIdeal.Value.res_main_v29 U) := by
  rw [show (39 : ℕ) = 30 + 9 from rfl, stage_add]
  generalize stage W 30 = σ at hx hy ⊢
  simp only [hostOps0, List.drop_succ_cons, List.drop_zero, List.take_succ_cons, List.take_zero]
  constructor
  · after_results
    rw [hx, hy, Cert.ReferenceIdeal.Value.res_main_v28]
    rfl
  · after_results
    rw [hx, hy, Cert.ReferenceIdeal.Value.res_main_v29, Cert.ReferenceIdeal.Value.res_main_v28]
    rfl

theorem words_39 (hx : (stage W 39 (Proc.devRef .tc main_v28) : IVec S100000x128 32) = turned (Cert.ReferenceIdeal.Value.res_main_v28 U))
    (hy : (stage W 39 (Proc.devRef .tc main_v29) : IVec S100000x128 32) = turned (Cert.ReferenceIdeal.Value.res_main_v29 U)) :
    (stage W 54 (Proc.devRef .tc main_v39) : IVec S100000x128 32) = turned (Cert.ReferenceIdeal.Value.res_main_v39 U)
      ∧ (stage W 54 (Proc.devRef .tc main_v40) : IVec S100000x128 32) = turned (Cert.ReferenceIdeal.Value.res_main_v40 U) := by
  rw [show (54 : ℕ) = 39 + 15 from rfl, stage_add]
  generalize stage W 39 = σ at hx hy ⊢
  simp only [hostOps0, List.drop_succ_cons, List.drop_zero, List.take_succ_cons, List.take_zero]
  constructor
  · after_results
    rw [hx, hy, Cert.ReferenceIdeal.Value.res_main_v39]
    rfl
  · after_results
    rw [hx, hy, Cert.ReferenceIdeal.Value.res_main_v40, Cert.ReferenceIdeal.Value.res_main_v39]
    rfl

theorem words_46 (hx : (stage W 54 (Proc.devRef .tc main_v39) : IVec S100000x128 32) = turned (Cert.ReferenceIdeal.Value.res_main_v39 U))
    (hy : (stage W 54 (Proc.devRef .tc main_v40) : IVec S100000x128 32) = turned (Cert.ReferenceIdeal.Value.res_main_v40 U)) :
    (stage W 63 (Proc.devRef .tc main_v46) : IVec S100000x128 32) = turned (Cert.ReferenceIdeal.Value.res_main_v46 U)
      ∧ (stage W 63 (Proc.devRef .tc main_v47) : IVec S100000x128 32) = turned (Cert.ReferenceIdeal.Value.res_main_v47 U) := by
  rw [show (63 : ℕ) = 54 + 9 from rfl, stage_add]
  generalize stage W 54 = σ at hx hy ⊢
  simp only [hostOps0, List.drop_succ_cons, List.drop_zero, List.take_succ_cons, List.take_zero]
  constructor
  · after_results
    rw [hx, hy, Cert.ReferenceIdeal.Value.res_main_v46]
    rfl
  · after_results
    rw [hx, hy, Cert.ReferenceIdeal.Value.res_main_v47, Cert.ReferenceIdeal.Value.res_main_v46]
    rfl

theorem words_53 (hx : (stage W 63 (Proc.devRef .tc main_v46) : IVec S100000x128 32) = turned (Cert.ReferenceIdeal.Value.res_main_v46 U))
    (hy : (stage W 63 (Proc.devRef .tc main_v47) : IVec S100000x128 32) = turned (Cert.ReferenceIdeal.Value.res_main_v47 U)) :
    (stage W 72 (Proc.devRef .tc main_v53) : IVec S100000x128 32) = turned (Cert.ReferenceIdeal.Value.res_main_v53 U)
      ∧ (stage W 72 (Proc.devRef .tc main_v54) : IVec S100000x128 32) = turned (Cert.ReferenceIdeal.Value.res_main_v54 U) := by
  rw [show (72 : ℕ) = 63 + 9 from rfl, stage_add]
  generalize stage W 63 = σ at hx hy ⊢
  simp only [hostOps0, List.drop_succ_cons, List.drop_zero, List.take_succ_cons, List.take_zero]
  constructor
  · after_results
    rw [hx, hy, Cert.ReferenceIdeal.Value.res_main_v53]
    rfl
  · after_results
    rw [hx, hy, Cert.ReferenceIdeal.Value.res_main_v54, Cert.ReferenceIdeal.Value.res_main_v53]
    rfl

theorem words_60 (hx : (stage W 72 (Proc.devRef .tc main_v53) : IVec S100000x128 32) = turned (Cert.ReferenceIdeal.Value.res_main_v53 U))
    (hy : (stage W 72 (Proc.devRef .tc main_v54) : IVec S100000x128 32) = turned (Cert.ReferenceIdeal.Value.res_main_v54 U)) :
    (stage W 81 (Proc.devRef .tc main_v60) : IVec S100000x128 32) = turned (Cert.ReferenceIdeal.Value.res_main_v60 U)
      ∧ (stage W 81 (Proc.devRef .tc main_v61) : IVec S100000x128 32) = turned (Cert.ReferenceIdeal.Value.res_main_v61 U) := by
  rw [show (81 : ℕ) = 72 + 9 from rfl, stage_add]
  generalize stage W 72 = σ at hx hy ⊢
  simp only [hostOps0, List.drop_succ_cons, List.drop_zero, List.take_succ_cons, List.take_zero]
  constructor
  · after_results
    rw [hx, hy, Cert.ReferenceIdeal.Value.res_main_v60]
    rfl
  · after_results
    rw [hx, hy, Cert.ReferenceIdeal.Value.res_main_v61, Cert.ReferenceIdeal.Value.res_main_v60]
    rfl

/-- The counter of every element, with the key added. -/
theorem words_7 : (stage W 12 (Proc.devRef .tc main_v7) : IVec S100000x128 32) = turned (Cert.ReferenceIdeal.Value.res_main_v7 U)
      ∧ (stage W 12 (Proc.devRef .tc main_v8) : IVec S100000x128 32) = turned (Cert.ReferenceIdeal.Value.res_main_v8 U) := by
  unfold stage
  simp only [hostOps0, List.take_succ_cons, List.take_zero]
  constructor
  · after_results
    rw [Cert.ReferenceIdeal.Value.res_main_v7]
    rfl
  · after_results
    rw [Cert.ReferenceIdeal.Value.res_main_v8, Cert.ReferenceIdeal.Value.res_main_v7]
    rfl

end Cert.KernelIdeal.Gumbel

end
-- ==== Proof.Words2.lean ====
/- The middle rounds of the random words. -/
module

public import proofs.«01_k».proof.Proof.Stage

@[expose] public section

set_option maxRecDepth 16384

noncomputable section

namespace Cert.KernelIdeal.Gumbel

open Idealize.ShloMosaic Idealize.ShloMosaic.TcCoe Idealize.ShloMosaic.Tactic
open Cert.KernelIdeal Cert.KernelIdeal.Gen

variable (W : Valuation τ sig (Elt Ideal)) (U : Valuation Cert.ReferenceIdeal.τ Cert.ReferenceIdeal.sig (Elt Ideal))

theorem words_71 (hx : (stage W 81 (Proc.devRef .tc main_v60) : IVec S100000x128 32) = turned (Cert.ReferenceIdeal.Value.res_main_v60 U))
    (hy : (stage W 81 (Proc.devRef .tc main_v61) : IVec S100000x128 32) = turned (Cert.ReferenceIdeal.Value.res_main_v61 U)) :
    (stage W 96 (Proc.devRef .tc main_v71) : IVec S100000x128 32) = turned (Cert.ReferenceIdeal.Value.res_main_v71 U)
      ∧ (stage W 96 (Proc.devRef .tc main_v72) : IVec S100000x128 32) = turned (Cert.ReferenceIdeal.Value.res_main_v72 U) := by
  rw [show (96 : ℕ) = 81 + 15 from rfl, stage_add]
  generalize stage W 81 = σ at hx hy ⊢
  simp only [hostOps0, List.drop_succ_cons, List.drop_zero, List.take_succ_cons, List.take_zero]
  constructor
  · after_results
    rw [hx, hy, Cert.ReferenceIdeal.Value.res_main_v71]
    rfl
  · after_results
    rw [hx, hy, Cert.ReferenceIdeal.Value.res_main_v72, Cert.ReferenceIdeal.Value.res_main_v71]
    rfl

theorem words_78 (hx : (stage W 96 (Proc.devRef .tc main_v71) : IVec S100000x128 32) = turned (Cert.ReferenceIdeal.Value.res_main_v71 U))
    (hy : (stage W 96 (Proc.devRef .tc main_v72) : IVec S100000x128 32) = turned (Cert.ReferenceIdeal.Value.res_main_v72 U)) :
    (stage W 105 (Proc.devRef .tc main_v78) : IVec S100000x128 32) = turned (Cert.ReferenceIdeal.Value.res_main_v78 U)
      ∧ (stage W 105 (Proc.devRef .tc main_v79) : IVec S100000x128 32) = turned (Cert.ReferenceIdeal.Value.res_main_v79 U) := by
  rw [show (105 : ℕ) = 96 + 9 from rfl, stage_add]
  generalize stage W 96 = σ at hx hy ⊢
  simp only [hostOps0, List.drop_succ_cons, List.drop_zero, List.take_succ_cons, List.take_zero]
  constructor
  · after_results
    rw [hx, hy, Cert.ReferenceIdeal.Value.res_main_v78]
    rfl
  · after_results
    rw [hx, hy, Cert.ReferenceIdeal.Value.res_main_v79, Cert.ReferenceIdeal.Value.res_main_v78]
    rfl

theorem words_85 (hx : (stage W 105 (Proc.devRef .tc main_v78) : IVec S100000x128 32) = turned (Cert.ReferenceIdeal.Value.res_main_v78 U))
    (hy : (stage W 105 (Proc.devRef .tc main_v79) : IVec S100000x128 32) = turned (Cert.ReferenceIdeal.Value.res_main_v79 U)) :
    (stage W 114 (Proc.devRef .tc main_v85) : IVec S100000x128 32) = turned (Cert.ReferenceIdeal.Value.res_main_v85 U)
      ∧ (stage W 114 (Proc.devRef .tc main_v86) : IVec S100000x128 32) = turned (Cert.ReferenceIdeal.Value.res_main_v86 U) := by
  rw [show (114 : ℕ) = 105 + 9 from rfl, stage_add]
  generalize stage W 105 = σ at hx hy ⊢
  simp only [hostOps0, List.drop_succ_cons, List.drop_zero, List.take_succ_cons, List.take_zero]
  constructor
  · after_results
    rw [hx, hy, Cert.ReferenceIdeal.Value.res_main_v85]
    rfl
  · after_results
    rw [hx, hy, Cert.ReferenceIdeal.Value.res_main_v86, Cert.ReferenceIdeal.Value.res_main_v85]
    rfl

theorem words_92 (hx : (stage W 114 (Proc.devRef .tc main_v85) : IVec S100000x128 32) = turned (Cert.ReferenceIdeal.Value.res_main_v85 U))
    (hy : (stage W 114 (Proc.devRef .tc main_v86) : IVec S100000x128 32) = turned (Cert.ReferenceIdeal.Value.res_main_v86 U)) :
    (stage W 123 (Proc.devRef .tc main_v92) : IVec S100000x128 32) = turned (Cert.ReferenceIdeal.Value.res_main_v92 U)
      ∧ (stage W 123 (Proc.devRef .tc main_v93) : IVec S100000x128 32) = turned (Cert.ReferenceIdeal.Value.res_main_v93 U) := by
  rw [show (123 : ℕ) = 114 + 9 from rfl, stage_add]
  generalize stage W 114 = σ at hx hy ⊢
  simp only [hostOps0, List.drop_succ_cons, List.drop_zero, List.take_succ_cons, List.take_zero]
  constructor
  · after_results
    rw [hx, hy, Cert.ReferenceIdeal.Value.res_main_v92]
    rfl
  · after_results
    rw [hx, hy, Cert.ReferenceIdeal.Value.res_main_v93, Cert.ReferenceIdeal.Value.res_main_v92]
    rfl

theorem words_103 (hx : (stage W 123 (Proc.devRef .tc main_v92) : IVec S100000x128 32) = turned (Cert.ReferenceIdeal.Value.res_main_v92 U))
    (hy : (stage W 123 (Proc.devRef .tc main_v93) : IVec S100000x128 32) = turned (Cert.ReferenceIdeal.Value.res_main_v93 U)) :
    (stage W 138 (Proc.devRef .tc main_v103) : IVec S100000x128 32) = turned (Cert.ReferenceIdeal.Value.res_main_v103 U)
      ∧ (stage W 138 (Proc.devRef .tc main_v104) : IVec S100000x128 32) = turned (Cert.ReferenceIdeal.Value.res_main_v104 U) := by
  rw [show (138 : ℕ) = 123 + 15 from rfl, stage_add]
  generalize stage W 123 = σ at hx hy ⊢
  simp only [hostOps0, List.drop_succ_cons, List.drop_zero, List.take_succ_cons, List.take_zero]
  constructor
  · after_results
    rw [hx, hy, Cert.ReferenceIdeal.Value.res_main_v103]
    rfl
  · after_results
    rw [hx, hy, Cert.ReferenceIdeal.Value.res_main_v104, Cert.ReferenceIdeal.Value.res_main_v103]
    rfl

theorem words_110 (hx : (stage W 138 (Proc.devRef .tc main_v103) : IVec S100000x128 32) = turned (Cert.ReferenceIdeal.Value.res_main_v103 U))
    (hy : (stage W 138 (Proc.devRef .tc main_v104) : IVec S100000x128 32) = turned (Cert.ReferenceIdeal.Value.res_main_v104 U)) :
    (stage W 147 (Proc.devRef .tc main_v110) : IVec S100000x128 32) = turned (Cert.ReferenceIdeal.Value.res_main_v110 U)
      ∧ (stage W 147 (Proc.devRef .tc main_v111) : IVec S100000x128 32) = turned (Cert.ReferenceIdeal.Value.res_main_v111 U) := by
  rw [show (147 : ℕ) = 138 + 9 from rfl, stage_add]
  generalize stage W 138 = σ at hx hy ⊢
  simp only [hostOps0, List.drop_succ_cons, List.drop_zero, List.take_succ_cons, List.take_zero]
  constructor
  · after_results
    rw [hx, hy, Cert.ReferenceIdeal.Value.res_main_v110]
    rfl
  · after_results
    rw [hx, hy, Cert.ReferenceIdeal.Value.res_main_v111, Cert.ReferenceIdeal.Value.res_main_v110]
    rfl

end Cert.KernelIdeal.Gumbel

end
-- ==== Proof.Words3.lean ====
/- The last rounds of the random words. -/
module

public import proofs.«01_k».proof.Proof.Stage

@[expose] public section

set_option maxRecDepth 16384

noncomputable section

namespace Cert.KernelIdeal.Gumbel

open Idealize.ShloMosaic Idealize.ShloMosaic.TcCoe Idealize.ShloMosaic.Tactic
open Cert.KernelIdeal Cert.KernelIdeal.Gen

variable (W : Valuation τ sig (Elt Ideal)) (U : Valuation Cert.ReferenceIdeal.τ Cert.ReferenceIdeal.sig (Elt Ideal))

theorem words_117 (hx : (stage W 147 (Proc.devRef .tc main_v110) : IVec S100000x128 32) = turned (Cert.ReferenceIdeal.Value.res_main_v110 U))
    (hy : (stage W 147 (Proc.devRef .tc main_v111) : IVec S100000x128 32) = turned (Cert.ReferenceIdeal.Value.res_main_v111 U)) :
    (stage W 156 (Proc.devRef .tc main_v117) : IVec S100000x128 32) = turned (Cert.ReferenceIdeal.Value.res_main_v117 U)
      ∧ (stage W 156 (Proc.devRef .tc main_v118) : IVec S100000x128 32) = turned (Cert.ReferenceIdeal.Value.res_main_v118 U) := by
  rw [show (156 : ℕ) = 147 + 9 from rfl, stage_add]
  generalize stage W 147 = σ at hx hy ⊢
  simp only [hostOps0, List.drop_succ_cons, List.drop_zero, List.take_succ_cons, List.take_zero]
  constructor
  · after_results
    rw [hx, hy, Cert.ReferenceIdeal.Value.res_main_v117]
    rfl
  · after_results
    rw [hx, hy, Cert.ReferenceIdeal.Value.res_main_v118, Cert.ReferenceIdeal.Value.res_main_v117]
    rfl

theorem words_124 (hx : (stage W 156 (Proc.devRef .tc main_v117) : IVec S100000x128 32) = turned (Cert.ReferenceIdeal.Value.res_main_v117 U))
    (hy : (stage W 156 (Proc.devRef .tc main_v118) : IVec S100000x128 32) = turned (Cert.ReferenceIdeal.Value.res_main_v118 U)) :
    (stage W 165 (Proc.devRef .tc main_v124) : IVec S100000x128 32) = turned (Cert.ReferenceIdeal.Value.res_main_v124 U)
      ∧ (stage W 165 (Proc.devRef .tc main_v125) : IVec S100000x128 32) = turned (Cert.ReferenceIdeal.Value.res_main_v125 U) := by
  rw [show (165 : ℕ) = 156 + 9 from rfl, stage_add]
  generalize stage W 156 = σ at hx hy ⊢
  simp only [hostOps0, List.drop_succ_cons, List.drop_zero, List.take_succ_cons, List.take_zero]
  constructor
  · after_results
    rw [hx, hy, Cert.ReferenceIdeal.Value.res_main_v124]
    rfl
  · after_results
    rw [hx, hy, Cert.ReferenceIdeal.Value.res_main_v125, Cert.ReferenceIdeal.Value.res_main_v124]
    rfl

theorem words_135 (hx : (stage W 165 (Proc.devRef .tc main_v124) : IVec S100000x128 32) = turned (Cert.ReferenceIdeal.Value.res_main_v124 U))
    (hy : (stage W 165 (Proc.devRef .tc main_v125) : IVec S100000x128 32) = turned (Cert.ReferenceIdeal.Value.res_main_v125 U)) :
    (stage W 180 (Proc.devRef .tc main_v135) : IVec S100000x128 32) = turned (Cert.ReferenceIdeal.Value.res_main_v135 U)
      ∧ (stage W 180 (Proc.devRef .tc main_v136) : IVec S100000x128 32) = turned (Cert.ReferenceIdeal.Value.res_main_v136 U) := by
  rw [show (180 : ℕ) = 165 + 15 from rfl, stage_add]
  generalize stage W 165 = σ at hx hy ⊢
  simp only [hostOps0, List.drop_succ_cons, List.drop_zero, List.take_succ_cons, List.take_zero]
  constructor
  · after_results
    rw [hx, hy, Cert.ReferenceIdeal.Value.res_main_v135]
    rfl
  · after_results
    rw [hx, hy, Cert.ReferenceIdeal.Value.res_main_v136, Cert.ReferenceIdeal.Value.res_main_v135]
    rfl

theorem words_142 (hx : (stage W 180 (Proc.devRef .tc main_v135) : IVec S100000x128 32) = turned (Cert.ReferenceIdeal.Value.res_main_v135 U))
    (hy : (stage W 180 (Proc.devRef .tc main_v136) : IVec S100000x128 32) = turned (Cert.ReferenceIdeal.Value.res_main_v136 U)) :
    (stage W 189 (Proc.devRef .tc main_v142) : IVec S100000x128 32) = turned (Cert.ReferenceIdeal.Value.res_main_v142 U)
      ∧ (stage W 189 (Proc.devRef .tc main_v143) : IVec S100000x128 32) = turned (Cert.ReferenceIdeal.Value.res_main_v143 U) := by
  rw [show (189 : ℕ) = 180 + 9 from rfl, stage_add]
  generalize stage W 180 = σ at hx hy ⊢
  simp only [hostOps0, List.drop_succ_cons, List.drop_zero, List.take_succ_cons, List.take_zero]
  constructor
  · after_results
    rw [hx, hy, Cert.ReferenceIdeal.Value.res_main_v142]
    rfl
  · after_results
    rw [hx, hy, Cert.ReferenceIdeal.Value.res_main_v143, Cert.ReferenceIdeal.Value.res_main_v142]
    rfl

theorem words_149 (hx : (stage W 189 (Proc.devRef .tc main_v142) : IVec S100000x128 32) = turned (Cert.ReferenceIdeal.Value.res_main_v142 U))
    (hy : (stage W 189 (Proc.devRef .tc main_v143) : IVec S100000x128 32) = turned (Cert.ReferenceIdeal.Value.res_main_v143 U)) :
    (stage W 198 (Proc.devRef .tc main_v149) : IVec S100000x128 32) = turned (Cert.ReferenceIdeal.Value.res_main_v149 U)
      ∧ (stage W 198 (Proc.devRef .tc main_v150) : IVec S100000x128 32) = turned (Cert.ReferenceIdeal.Value.res_main_v150 U) := by
  rw [show (198 : ℕ) = 189 + 9 from rfl, stage_add]
  generalize stage W 189 = σ at hx hy ⊢
  simp only [hostOps0, List.drop_succ_cons, List.drop_zero, List.take_succ_cons, List.take_zero]
  constructor
  · after_results
    rw [hx, hy, Cert.ReferenceIdeal.Value.res_main_v149]
    rfl
  · after_results
    rw [hx, hy, Cert.ReferenceIdeal.Value.res_main_v150, Cert.ReferenceIdeal.Value.res_main_v149]
    rfl

theorem words_156 (hx : (stage W 198 (Proc.devRef .tc main_v149) : IVec S100000x128 32) = turned (Cert.ReferenceIdeal.Value.res_main_v149 U))
    (hy : (stage W 198 (Proc.devRef .tc main_v150) : IVec S100000x128 32) = turned (Cert.ReferenceIdeal.Value.res_main_v150 U)) :
    (stage W 207 (Proc.devRef .tc main_v156) : IVec S100000x128 32) = turned (Cert.ReferenceIdeal.Value.res_main_v156 U)
      ∧ (stage W 207 (Proc.devRef .tc main_v157) : IVec S100000x128 32) = turned (Cert.ReferenceIdeal.Value.res_main_v157 U) := by
  rw [show (207 : ℕ) = 198 + 9 from rfl, stage_add]
  generalize stage W 198 = σ at hx hy ⊢
  simp only [hostOps0, List.drop_succ_cons, List.drop_zero, List.take_succ_cons, List.take_zero]
  constructor
  · after_results
    rw [hx, hy, Cert.ReferenceIdeal.Value.res_main_v156]
    rfl
  · after_results
    rw [hx, hy, Cert.ReferenceIdeal.Value.res_main_v157, Cert.ReferenceIdeal.Value.res_main_v156]
    rfl

end Cert.KernelIdeal.Gumbel

end
-- ==== Proof.RowMax.lean ====
/- The maximum along the rows of a two-dimensional array, read at a row. -/
module

public import Idealize.ShloMosaic.Lib.Pointwise

@[expose] public section

noncomputable section

namespace Cert.ReferenceIdeal.Gumbel

open Idealize.ShloMosaic

/-- Inserting a column into a row's index. -/
theorem lift_row {a n : ℕ} (h : (⟨2, ![a, n]⟩ : Shape).Reduces [1] ⟨1, ![a]⟩) (i : Fin a) (k : Fin n) :
    h.lift (ix1 i) k = ix2 i k := by
  funext c
  apply Fin.ext
  fin_cases c
  · rfl
  · rfl

/-- The maximum from −∞ along the rows is the fold of `max` over the row. -/
theorem reduce_max {a n : ℕ} (y : FVec Ideal ⟨2, ![a, n]⟩ .f32) {u : Shape} (init : FVec Ideal u .f32)
    (h' : (⟨2, ![a, n]⟩ : Shape).ReducesTo [1] ⟨1, ![a]⟩) (h : (⟨2, ![a, n]⟩ : Shape).Reduces [1] ⟨1, ![a]⟩)
    (hu : 0 < u.numel) (hi : init (Shape.Idx.first hu) = (⊥ : EReal)) (i : Fin a) :
    Host.reduce FloatOps.maximumf y init h' hu (ix1 i) = (Finset.univ.fold max (⊥ : EReal) fun k : Fin n => y (ix2 i k)) := by
  rw [Host.reduce_eq_fold_single FloatOps.maximumf y init h' h hu (ix1 i), hi]
  have e : y ∘ h.lift (ix1 i) = fun k : Fin n => y (ix2 i k) := funext fun k => congrArg y (lift_row h i k)
  rw [e]
  rfl

/-- The word of −∞. -/
theorem neg_inf : (FloatOps.ofBits .f32 0xFF800000#32 : Ideal .f32) = (⊥ : EReal) := by
  show Ideal.ofBits .f32 0xFF800000#32 = (⊥ : EReal)
  simp [Ideal.ofBits, Ideal.ieee]

/-- The word of +∞. -/
theorem pos_inf : (FloatOps.ofBits .f32 0x7F800000#32 : Ideal .f32) = (⊤ : EReal) := by
  show Ideal.ofBits .f32 0x7F800000#32 = (⊤ : EReal)
  simp [Ideal.ofBits, Ideal.ieee]

/-- An extended real whose absolute value is below `⊤` is a real number. -/
theorem real_of_abs (M : EReal) (h : max M (-M) < ⊤) : M ≠ ⊥ ∧ M ≠ ⊤ :=
  ⟨fun e => absurd h (by simp [e]), fun e => absurd h (by simp [e])⟩

end Cert.ReferenceIdeal.Gumbel

end
-- ==== Proof.Halves.lean ====
/- The number a 16-bit half-precision code stands for, and that the kernel's 32-bit word for the code is that number's
single-precision pattern. -/
module

public import Idealize.ShloMosaic.PureOps.Ideal
public import Mathlib.Analysis.SpecialFunctions.Pow.Real
public import Mathlib.Data.Nat.Bitwise

@[expose] public section

noncomputable section

namespace Cert.KernelIdeal.Gumbel

open Idealize.ShloMosaic

/-- The word the kernel makes of a code: sign moved to the top, magnitude moved to single precision's fields, and
    a signed zero where the magnitude is zero. -/
def word (h : BitVec 32) : BitVec 32 :=
  if h &&& 32767#32 = 0#32 then (h &&& 32768#32) <<< 16
  else ((h &&& 32768#32) <<< 16) ||| (((h &&& 32767#32) <<< 13) + 939524096#32)

/-- A code's number without its sign: exponent `n / 1024`, fraction `n % 1024`, and zero for zero. -/
def magnitude (n : ℕ) : ℝ := if n = 0 then 0 else (1024 + (n % 1024 : ℕ)) * (2 : ℝ) ^ ((n / 1024 : ℕ) - 25 : ℤ)

/-- A code's number. -/
def number (h : BitVec 32) : ℝ :=
  (if h &&& 32768#32 = 0#32 then 1 else -1) * magnitude (h &&& 32767#32).toNat

theorem low_toNat (h : BitVec 32) : (h &&& 32767#32).toNat = h.toNat % 32768 := by
  rw [BitVec.toNat_and]
  exact Nat.and_two_pow_sub_one_eq_mod h.toNat 15

/-- The sign bit is clear or it is the one bit kept. -/
theorem sign_cases (h : BitVec 32) :
    (h &&& 32768#32 = 0#32 ∧ h.toNat / 32768 % 2 = 0) ∨ (h &&& 32768#32 = 32768#32 ∧ h.toNat / 32768 % 2 = 1) := by
  have e : (h &&& 32768#32).toNat = 2 ^ 15 * (h.toNat.testBit 15).toNat := by
    rw [BitVec.toNat_and]
    exact Nat.and_two_pow h.toNat 15 |>.trans (Nat.mul_comm _ _)
  have t : h.toNat.testBit 15 = decide (h.toNat / 32768 % 2 = 1) := Nat.testBit_eq_decide_div_mod_eq
  by_cases hb : h.toNat / 32768 % 2 = 1
  · right
    refine ⟨BitVec.eq_of_toNat_eq ?_, hb⟩
    rw [e, t, decide_eq_true hb]; rfl
  · left
    refine ⟨BitVec.eq_of_toNat_eq ?_, by omega⟩
    rw [e, t, decide_eq_false hb]; rfl

/-- The magnitude's part of a nonzero code's word. -/
theorem shifted_toNat (h : BitVec 32) :
    (((h &&& 32767#32) <<< 13) + 939524096#32).toNat = (h.toNat % 32768) * 8192 + 939524096 := by
  rw [BitVec.toNat_add, BitVec.toNat_shiftLeft, low_toNat, Nat.shiftLeft_eq]
  have := Nat.mod_lt h.toNat (show 32768 > 0 by omega)
  show ((h.toNat % 32768 * 2 ^ 13) % 2 ^ 32 + 939524096) % 2 ^ 32 = _
  omega

/-- The word as a natural number. -/
theorem word_toNat (h : BitVec 32) : (word h).toNat
    = 2 ^ 31 * (h.toNat / 32768 % 2) + (if h.toNat % 32768 = 0 then 0 else (h.toNat % 32768) * 8192 + 939524096) := by
  have z : h &&& 32767#32 = 0#32 ↔ h.toNat % 32768 = 0 := by
    rw [← low_toNat]
    exact ⟨fun e => by rw [e]; rfl, fun e => BitVec.eq_of_toNat_eq e⟩
  have lt := Nat.mod_lt h.toNat (show 32768 > 0 by omega)
  unfold word
  by_cases hz : h.toNat % 32768 = 0
  · rw [if_pos (z.mpr hz), if_pos hz]
    rcases sign_cases h with ⟨e, e'⟩ | ⟨e, e'⟩ <;> rw [e, e'] <;> rfl
  · rw [if_neg (fun h' => hz (z.mp h')), if_neg hz, BitVec.toNat_or, shifted_toNat]
    rcases sign_cases h with ⟨e, e'⟩ | ⟨e, e'⟩ <;> rw [e, e']
    · show 0 ||| _ = _
      rw [Nat.zero_or]; omega
    · exact (Nat.two_pow_add_eq_or_of_lt (i := 31) (by omega) 1).symm

/-- The single-precision reading of a code's word is the code's number. -/
theorem word_number (h : BitVec 32) : Ideal.ofBits .f32 (word h) = ((number h : ℝ) : EReal) := by
  have hw := word_toNat h
  have lt := Nat.mod_lt h.toNat (show 32768 > 0 by omega)
  have h1 : (((word h).extractLsb' 31 1) == 1#1) = !(h &&& 32768#32 == 0#32) := by
    rcases sign_cases h with ⟨e, e'⟩ | ⟨e, e'⟩
    · rw [e, show (word h).extractLsb' 31 1 = 0#1 from BitVec.eq_of_toNat_eq (by
        rw [BitVec.extractLsb'_toNat, Nat.shiftRight_eq_div_pow, hw, e']
        show _ = 0
        split <;> omega)]
      rfl
    · rw [e, show (word h).extractLsb' 31 1 = 1#1 from BitVec.eq_of_toNat_eq (by
        rw [BitVec.extractLsb'_toNat, Nat.shiftRight_eq_div_pow, hw, e']
        show _ = 1
        split <;> omega)]
      rfl
  have h2 : ((word h).extractLsb' 23 8).toNat = if h.toNat % 32768 = 0 then 0 else 112 + h.toNat % 32768 / 1024 := by
    rw [BitVec.extractLsb'_toNat, Nat.shiftRight_eq_div_pow, hw]
    split <;> omega
  have h3 : ((word h).extractLsb' 0 23).toNat = (h.toNat % 32768 % 1024) * 8192 := by
    rw [BitVec.extractLsb'_toNat, Nat.shiftRight_eq_div_pow, hw]
    split <;> omega
  show Ideal.ieee 8 23 (word h) = _
  unfold Ideal.ieee
  simp only [Nat.reduceAdd]
  rw [h1, h2, h3]
  unfold number magnitude
  rw [low_toNat]
  have hs : (if (!(h &&& 32768#32 == 0#32)) = true then (-1 : ℝ) else 1) = if h &&& 32768#32 = 0#32 then 1 else -1 := by
    by_cases e : h &&& 32768#32 = 0#32 <;> simp [e]
  rw [hs]
  by_cases hz : h.toNat % 32768 = 0
  · simp [hz]
  · rw [if_neg hz, if_neg hz, if_neg (by omega), if_neg (by omega)]
    refine congrArg (fun r : ℝ => (r : EReal)) ?_
    rw [mul_assoc]
    congr 1
    have e : (((112 + h.toNat % 32768 / 1024 : ℕ) : ℤ) - (2 ^ (8 - 1) - 1) - (23 : ℕ))
        = ((h.toNat % 32768 / 1024 : ℕ) - 25 : ℤ) + (-13 : ℤ) := by push_cast; ring
    rw [e, zpow_add₀ (by norm_num)]
    push_cast
    norm_num
    ring

end Cert.KernelIdeal.Gumbel

end
-- ==== Proof.Nearest.lean ====
/- Rounding a real number to half precision: the number it rounds to and the code of that number. -/
module

public import proofs.«01_k».proof.Proof.Halves

@[expose] public section

noncomputable section

namespace Cert.KernelIdeal.Gumbel

open Idealize.ShloMosaic

/-- Rounding keeps what is at least an integer at least that integer, -/
theorem le_nearest {r : ℝ} {n : ℤ} (h : (n : ℝ) ≤ r) : n ≤ Ideal.roundHalfEven r := by
  have f : n ≤ ⌊r⌋ := Int.le_floor.mpr h
  unfold Ideal.roundHalfEven
  simp only
  split
  · exact f
  · split
    · omega
    · split <;> omega

/-- and what is at most an integer at most that integer. -/
theorem nearest_le {r : ℝ} {n : ℤ} (h : r ≤ (n : ℝ)) : Ideal.roundHalfEven r ≤ n := by
  have f : ⌊r⌋ ≤ n := by
    have := (Int.floor_le r).trans h
    exact_mod_cast this
  have s : ⌊r⌋ = n → r - ⌊r⌋ < 1 / 2 := fun e => by
    rw [e]
    linarith
  unfold Ideal.roundHalfEven
  simp only
  split
  · exact f
  · rename_i h1
    have : ⌊r⌋ ≠ n := fun e => h1 (s e)
    split
    · omega
    · split <;> omega

/-- How many of the powers of two from 2⁻¹³ up to 2¹⁵ are at most `a`. -/
def lead (a : ℝ) : ℕ := by
  classical
  exact Nat.count (fun k : ℕ => (2 : ℝ) ^ ((k : ℤ) - 13) ≤ a) 29

theorem two_pow_mono {i j : ℤ} (h : i ≤ j) : (2 : ℝ) ^ i ≤ (2 : ℝ) ^ j := zpow_le_zpow_right₀ (by norm_num) h

theorem lead_le (a : ℝ) : lead a ≤ 29 := by
  classical
  unfold lead
  exact Nat.count_le _

theorem lead_iff (a : ℝ) (k : ℕ) (hk : k < 29) : (2 : ℝ) ^ ((k : ℤ) - 13) ≤ a ↔ k < lead a := by
  classical
  have mono : ∀ i j : ℕ, i ≤ j → (2 : ℝ) ^ ((j : ℤ) - 13) ≤ a → (2 : ℝ) ^ ((i : ℤ) - 13) ≤ a := fun i j h h' =>
    (two_pow_mono (by omega)).trans h'
  have step : ∀ n : ℕ, (∀ j : ℕ, j < n → (2 : ℝ) ^ ((j : ℤ) - 13) ≤ a) → Nat.count (fun k : ℕ => (2 : ℝ) ^ ((k : ℤ) - 13) ≤ a) n = n := by
    intro n hn
    induction n with
    | zero => rfl
    | succ n ih => rw [Nat.count_succ, ih (fun j h => hn j (by omega)), if_pos (hn n (by omega))]
  have stop : ∀ n : ℕ, k ≤ n → ¬(2 : ℝ) ^ ((k : ℤ) - 13) ≤ a → Nat.count (fun k : ℕ => (2 : ℝ) ^ ((k : ℤ) - 13) ≤ a) n ≤ k := by
    intro n hn hnot
    induction n, hn using Nat.le_induction with
    | base => exact Nat.count_le _
    | succ n hn ih =>
      rw [Nat.count_succ, if_neg (fun h => hnot (mono k n hn h))]
      exact ih
  unfold lead
  constructor
  · intro h
    have e := step (k + 1) (fun j hj => mono j k (by omega) h)
    have l : Nat.count (fun k : ℕ => (2 : ℝ) ^ ((k : ℤ) - 13) ≤ a) (k + 1) ≤ Nat.count (fun k : ℕ => (2 : ℝ) ^ ((k : ℤ) - 13) ≤ a) 29 :=
      Nat.count_monotone _ (by omega)
    omega
  · intro h
    by_contra hnot
    have := stop 29 (by omega) hnot
    omega

/-- The unit of the last place of half precision near `a`. -/
def place (a : ℝ) : ℝ := (2 : ℝ) ^ ((lead a : ℤ) - 24)

theorem place_pos (a : ℝ) : 0 < place a := zpow_pos (by norm_num) _

/-- The multiple of that unit nearest `a`. -/
def mant (a : ℝ) : ℤ := Ideal.roundHalfEven (a * (2 : ℝ) ^ (24 - (lead a : ℤ)))

theorem mant_nonneg {a : ℝ} (h : 0 ≤ a) : 0 ≤ mant a :=
  le_nearest (by push_cast; positivity)

theorem mant_le {a : ℝ} (h : a < 65536) : mant a ≤ 2048 := by
  apply nearest_le
  have l : a ≤ (2 : ℝ) ^ ((lead a : ℤ) - 13) := by
    by_cases e : lead a < 29
    · by_contra hc
      have := (lead_iff a (lead a) e).mp (le_of_lt (not_le.mp hc))
      omega
    · have : lead a = 29 := by have := lead_le a; omega
      rw [this]
      norm_num
      linarith
  calc a * (2 : ℝ) ^ (24 - (lead a : ℤ)) ≤ (2 : ℝ) ^ ((lead a : ℤ) - 13) * (2 : ℝ) ^ (24 - (lead a : ℤ)) :=
        mul_le_mul_of_nonneg_right l (by positivity)
    _ = ((2048 : ℤ) : ℝ) := by
        rw [← zpow_add₀ (by norm_num), show (lead a : ℤ) - 13 + (24 - (lead a : ℤ)) = 11 by ring]
        norm_num

theorem le_mant {a : ℝ} (h : lead a ≠ 0) : 1024 ≤ mant a := by
  apply le_nearest
  have l : (2 : ℝ) ^ ((lead a : ℤ) - 14) ≤ a := by
    have := (lead_iff a (lead a - 1) (by have := lead_le a; omega)).mpr (by omega)
    rwa [show ((lead a - 1 : ℕ) : ℤ) - 13 = (lead a : ℤ) - 14 by omega] at this
  calc ((1024 : ℤ) : ℝ) = (2 : ℝ) ^ ((lead a : ℤ) - 14) * (2 : ℝ) ^ (24 - (lead a : ℤ)) := by
        rw [← zpow_add₀ (by norm_num), show (lead a : ℤ) - 14 + (24 - (lead a : ℤ)) = 10 by ring]
        norm_num
    _ ≤ a * (2 : ℝ) ^ (24 - (lead a : ℤ)) := mul_le_mul_of_nonneg_right l (by positivity)

/-- What `a ≥ 0` rounds to, with everything below the normal numbers sent to zero. -/
def nearAbs (a : ℝ) : ℝ := if (mant a : ℝ) * place a < (2 : ℝ) ^ (-14 : ℤ) then 0 else (mant a : ℝ) * place a

/-- What a real number rounds to. -/
def near (g : ℝ) : ℝ := if g < 0 then -nearAbs |g| else nearAbs |g|

/-- The code of what `a ≥ 0` rounds to, before the numbers below the normal ones are sent to zero. -/
def rawCode (a : ℝ) : BitVec 32 := BitVec.ofNat 32 (lead a) * 1024#32 + BitVec.ofInt 32 (mant a)

/-- The code of what a real number rounds to. -/
def codeOf (g : ℝ) : BitVec 32 :=
  (if g < 0 then 32768#32 else 0#32) ||| (if rawCode |g| &&& 31744#32 = 0#32 then 0#32 else rawCode |g|)

theorem rawCode_toNat {a : ℝ} (h0 : 0 ≤ a) (h : a < 65536) : (rawCode a).toNat = lead a * 1024 + (mant a).toNat := by
  have l := lead_le a
  have m0 := mant_nonneg h0
  have m1 := mant_le h
  unfold rawCode
  rw [BitVec.toNat_add, BitVec.toNat_mul, BitVec.toNat_ofNat, BitVec.toNat_ofInt]
  show (lead a % 2 ^ 32 * 1024 % 2 ^ 32 + (mant a % ((2 ^ 32 : ℕ) : ℤ)).toNat) % 2 ^ 32 = _
  have e : mant a % ((2 ^ 32 : ℕ) : ℤ) = mant a := Int.emod_eq_of_lt m0 (by norm_num; omega)
  rw [e]
  omega

/-- The bits tested are clear exactly for codes below 1024. -/
theorem small_iff (n : BitVec 32) (h : n.toNat < 32768) : n &&& 31744#32 = 0#32 ↔ n.toNat < 1024 := by
  have e : n = BitVec.ofNat 32 n.toNat := by simp
  constructor
  · intro hz
    have t : ∀ i, 10 ≤ i → i < 15 → n.toNat.testBit i = false := fun i h1 h2 => by
      have := congrArg (fun b : BitVec 32 => b.toNat.testBit i) hz
      simp only [BitVec.toNat_and, Nat.testBit_and] at this
      have b : (31744#32 : BitVec 32).toNat.testBit i = true := by
        interval_cases i <;> rfl
      rw [b] at this
      simpa using this
    apply Nat.lt_pow_two_of_testBit (n := 10)
    intro i hi
    by_cases h2 : i < 15
    · exact t i hi h2
    · exact Nat.testBit_lt_two_pow (lt_of_lt_of_le h (Nat.pow_le_pow_right (n := 2) (by norm_num) (show 15 ≤ i by omega)))
  · intro hl
    apply BitVec.eq_of_toNat_eq
    rw [BitVec.toNat_and]
    apply Nat.eq_of_testBit_eq
    intro i
    rw [Nat.testBit_and]
    by_cases hi : i < 10
    · have b : (31744#32 : BitVec 32).toNat.testBit i = false := by interval_cases i <;> rfl
      rw [b]; simp
    · rw [Nat.testBit_lt_two_pow (lt_of_lt_of_le hl (Nat.pow_le_pow_right (n := 2) (by norm_num) (show 10 ≤ i by omega)))]
      simp

/-- The product is below the normal numbers exactly for codes below 1024. -/
theorem below_iff {a : ℝ} (h0 : 0 ≤ a) : (mant a : ℝ) * place a < (2 : ℝ) ^ (-14 : ℤ) ↔ lead a * 1024 + (mant a).toNat < 1024 := by
  have m0 := mant_nonneg h0
  by_cases hl : lead a = 0
  · have p : place a = (2 : ℝ) ^ (-24 : ℤ) := by unfold place; rw [hl]; norm_num
    have : (2 : ℝ) ^ (-14 : ℤ) = 1024 * place a := by rw [p]; norm_num
    rw [this, mul_lt_mul_iff_left₀ (place_pos a), hl]
    rw [show (1024 : ℝ) = ((1024 : ℤ) : ℝ) by norm_num, Int.cast_lt]
    omega
  · have m1 := le_mant hl
    refine iff_of_false (not_lt.mpr ?_) (by omega)
    have p : (2 : ℝ) ^ (-24 : ℤ) ≤ place a := two_pow_mono (by omega)
    have m2 : (1024 : ℝ) ≤ (mant a : ℝ) := by exact_mod_cast m1
    calc (2 : ℝ) ^ (-14 : ℤ) = 1024 * (2 : ℝ) ^ (-24 : ℤ) := by norm_num
      _ ≤ (mant a : ℝ) * place a := mul_le_mul m2 p (by positivity) (by positivity)

theorem magnitude_code {a : ℝ} (h0 : 0 ≤ a) (h : a < 65536) :
    magnitude (if rawCode a &&& 31744#32 = 0#32 then 0#32 else rawCode a).toNat = nearAbs a := by
  have m0 := mant_nonneg h0
  have m1 := mant_le h
  have l := lead_le a
  have t := rawCode_toNat h0 h
  have s := small_iff (rawCode a) (by omega)
  unfold nearAbs
  by_cases hb : lead a * 1024 + (mant a).toNat < 1024
  · rw [if_pos (s.mpr (by omega)), if_pos ((below_iff h0).mpr hb)]
    simp [magnitude]
  · rw [if_neg (fun e => hb (by have := s.mp e; omega)), if_neg (fun e => hb ((below_iff h0).mp e)), t]
    have m2 : 1024 ≤ mant a := by
      by_cases hl : lead a = 0
      · omega
      · exact le_mant hl
    obtain ⟨k, hk⟩ : ∃ k : ℕ, mant a = 1024 + (k : ℤ) := ⟨(mant a - 1024).toNat, by omega⟩
    unfold magnitude place
    rw [hk]
    have e1 : lead a * 1024 + (1024 + (k : ℤ)).toNat = (lead a + 1) * 1024 + k := by omega
    rw [e1, if_neg (by omega)]
    by_cases hk2 : k = 1024
    · subst hk2
      have e2 : ((lead a + 1) * 1024 + 1024) % 1024 = 0 := by omega
      have e3 : ((lead a + 1) * 1024 + 1024) / 1024 = lead a + 2 := by omega
      rw [e2, e3, show ((lead a + 2 : ℕ) : ℤ) - 25 = ((lead a : ℤ) - 24) + 1 by push_cast; ring, zpow_add₀ (by norm_num)]
      push_cast
      norm_num
      ring
    · have e2 : ((lead a + 1) * 1024 + k) % 1024 = k := by omega
      have e3 : ((lead a + 1) * 1024 + k) / 1024 = lead a + 1 := by omega
      rw [e2, e3, show ((lead a + 1 : ℕ) : ℤ) - 25 = (lead a : ℤ) - 24 by push_cast; ring]
      push_cast
      ring

theorem sign_and (s n : BitVec 32) (hs : s = 32768#32 ∨ s = 0#32) (hn : n.toNat < 32768) :
    ((s ||| n) &&& 32767#32).toNat = n.toNat ∧ (s ||| n) &&& 32768#32 = s ∧ (s ||| n).toNat < 65536 := by
  have t : (s ||| n).toNat = s.toNat + n.toNat := by
    rw [BitVec.toNat_or]
    rcases hs with rfl | rfl
    · exact (Nat.two_pow_add_eq_or_of_lt (i := 15) hn 1).symm
    · show 0 ||| n.toNat = 0 + n.toNat
      rw [Nat.zero_or, Nat.zero_add]
  refine ⟨?_, ?_, ?_⟩
  · rw [low_toNat, t]
    rcases hs with rfl | rfl
    · show (32768 + n.toNat) % 32768 = _
      omega
    · show (0 + n.toNat) % 32768 = _
      omega
  · rcases sign_cases (s ||| n) with ⟨e, e'⟩ | ⟨e, e'⟩
    · rw [e]
      rw [t] at e'
      rcases hs with rfl | rfl
      · exact absurd (show (32768 + n.toNat) / 32768 % 2 = 0 from e') (by omega)
      · rfl
    · rw [e]
      rw [t] at e'
      rcases hs with rfl | rfl
      · rfl
      · exact absurd (show (0 + n.toNat) / 32768 % 2 = 1 from e') (by omega)
  · rw [t]
    rcases hs with rfl | rfl
    · show 32768 + n.toNat < _
      omega
    · show 0 + n.toNat < _
      omega

/-- The code's number is what the number rounds to, and the code has sixteen bits. -/
theorem number_codeOf {g : ℝ} (h : |g| < 65536) : number (codeOf g) = near g ∧ (codeOf g).toNat < 65536 := by
  have c := magnitude_code (abs_nonneg g) h
  have m0 := mant_nonneg (abs_nonneg g)
  have m1 := mant_le h
  have l := lead_le |g|
  have t := rawCode_toNat (abs_nonneg g) h
  have lt : (if rawCode |g| &&& 31744#32 = 0#32 then 0#32 else rawCode |g|).toNat < 32768 := by
    split
    · norm_num
    · omega
  obtain ⟨h1, h2, h3⟩ := sign_and (if g < 0 then 32768#32 else 0#32) _ (by split <;> simp) lt
  refine ⟨?_, h3⟩
  unfold number
  unfold codeOf
  rw [h1, h2, c]
  unfold near
  by_cases hg : g < 0
  · rw [if_pos hg, if_pos hg, if_neg (by decide)]
    ring
  · rw [if_neg hg, if_neg hg, if_pos rfl]
    ring

end Cert.KernelIdeal.Gumbel

end
-- ==== Proof.Gumbel.lean ====
/- The noise made of one random word: a real number of small size. -/
module

public import Idealize.ShloMosaic.PureOps.Ideal
public import Mathlib.Analysis.SpecialFunctions.Log.Basic

@[expose] public section

noncomputable section

namespace Cert.KernelIdeal.Gumbel

open Idealize.ShloMosaic

/-- The pattern made of a random word: its upper 23 bits as the fraction of a number in [1, 2). -/
def pattern (b : BitVec 32) : BitVec 32 := IntOp.ori (IntOp.shrui .host b 9#32) 1065353216#32

/-- The noise of a random word. -/
def gumbel (b : BitVec 32) : EReal :=
  -(Ideal.log (-(Ideal.log (Ideal.ofBits .f32 (pattern b) - Ideal.ofBits .f32 0x3F800000#32 + Ideal.ofBits .f32 0x322BCC77#32))
    + Ideal.ofBits .f32 0x322BCC77#32))

/-- The word of one. -/
theorem one_word : Ideal.ofBits .f32 0x3F800000#32 = ((1 : ℝ) : EReal) := by
  simp [Ideal.ofBits, Ideal.ieee]
  rw [← EReal.coe_mul]
  norm_num

/-- The word of the small number added under the logarithms. -/
theorem eps_word : ∃ e : ℝ, Ideal.ofBits .f32 0x322BCC77#32 = (e : EReal) ∧ (2 : ℝ) ^ (-27 : ℤ) ≤ e ∧ e < (2 : ℝ) ^ (-26 : ℤ) := by
  refine ⟨11258999 * (2 : ℝ) ^ (-50 : ℤ), ?_, by norm_num, by norm_num⟩
  simp [Ideal.ofBits, Ideal.ieee]

theorem pattern_eq (b : BitVec 32) : Ideal.ofBits .f32 (pattern b) = ((1 + (b.toNat / 512 : ℕ) * (2 : ℝ) ^ (-23 : ℤ) : ℝ) : EReal) := by
  have hb := b.isLt
  have hp : (pattern b).toNat = 1065353216 + b.toNat / 512 := by
    show ((b >>> 9) ||| 1065353216#32).toNat = _
    rw [BitVec.toNat_or, BitVec.toNat_ushiftRight, Nat.shiftRight_eq_div_pow, Nat.or_comm]
    have h : b.toNat / 2 ^ 9 < 2 ^ 23 := by omega
    exact (Nat.two_pow_add_eq_or_of_lt (i := 23) h 127).symm
  have h1 : (((pattern b).extractLsb' 31 1) == 1#1) = false := by
    rw [show (pattern b).extractLsb' 31 1 = 0#1 from BitVec.eq_of_toNat_eq (by
        rw [BitVec.extractLsb'_toNat, Nat.shiftRight_eq_div_pow, hp]
        show _ = 0
        omega)]
    rfl
  have h2 : ((pattern b).extractLsb' 23 8).toNat = 127 := by
    rw [BitVec.extractLsb'_toNat, Nat.shiftRight_eq_div_pow, hp]
    omega
  have h3 : ((pattern b).extractLsb' 0 23).toNat = b.toNat / 512 := by
    rw [BitVec.extractLsb'_toNat, Nat.shiftRight_eq_div_pow, hp]
    omega
  show Ideal.ieee 8 23 (pattern b) = _
  unfold Ideal.ieee
  simp only [Nat.reduceAdd]
  rw [h1, h2, h3, if_neg (by omega), if_neg (by omega)]
  refine congrArg (fun r : ℝ => (r : EReal)) ?_
  push_cast
  norm_num
  ring

theorem log_pos (r : ℝ) (h : 0 < r) : Ideal.log (r : EReal) = ((Real.log r : ℝ) : EReal) := by
  show (if r ≤ 0 then ⊥ else ((Real.log r : ℝ) : EReal)) = _
  rw [if_neg (not_le.mpr h)]

theorem log_bound {r : ℝ} (h : (2 : ℝ) ^ (-27 : ℤ) ≤ r) : -27 ≤ Real.log r := by
  have p : (0 : ℝ) < (2 : ℝ) ^ (-27 : ℤ) := by positivity
  have l := Real.log_le_log p h
  rw [Real.log_zpow] at l
  have := Real.log_le_sub_one_of_pos (show (0 : ℝ) < 2 by norm_num)
  push_cast at l
  linarith

/-- The noise is a real number far below the largest half-precision number. -/
theorem gumbel_real (b : BitVec 32) : ∃ g : ℝ, gumbel b = (g : EReal) ∧ |g| < 65536 := by
  obtain ⟨e, he, h1, h2⟩ := eps_word
  have hb := b.isLt
  have e0 : (0 : ℝ) < e := lt_of_lt_of_le (by positivity) h1
  unfold gumbel
  rw [he, pattern_eq, one_word]
  have hk : ((b.toNat / 512 : ℕ) : ℝ) ≤ 8388607 := by
    have : b.toNat / 512 ≤ 8388607 := by omega
    exact_mod_cast this
  have hk0 : (0 : ℝ) ≤ ((b.toNat / 512 : ℕ) : ℝ) := by positivity
  generalize ((b.toNat / 512 : ℕ) : ℝ) = k at hk hk0 ⊢
  have s : ((1 + k * (2 : ℝ) ^ (-23 : ℤ) : ℝ) : EReal) - ((1 : ℝ) : EReal) + (e : EReal) = ((k * (2 : ℝ) ^ (-23 : ℤ) + e : ℝ) : EReal) := by
    rw [← EReal.coe_sub, ← EReal.coe_add]
    congr 1
    ring
  rw [s]
  have q1 : (2 : ℝ) ^ (-27 : ℤ) ≤ k * (2 : ℝ) ^ (-23 : ℤ) + e := by
    have : 0 ≤ k * (2 : ℝ) ^ (-23 : ℤ) := by positivity
    linarith
  have q2 : k * (2 : ℝ) ^ (-23 : ℤ) + e ≤ 1 := by
    have h3 : k * (2 : ℝ) ^ (-23 : ℤ) ≤ 8388607 * (2 : ℝ) ^ (-23 : ℤ) := mul_le_mul_of_nonneg_right hk (by positivity)
    norm_num at h2 h3 ⊢
    linarith
  generalize k * (2 : ℝ) ^ (-23 : ℤ) + e = q at q1 q2 ⊢
  have q0 : 0 < q := lt_of_lt_of_le (by positivity) q1
  rw [log_pos q q0, ← EReal.coe_neg, ← EReal.coe_add]
  have t1 := log_bound q1
  have t2 := Real.log_nonpos q0.le q2
  have u1 : (2 : ℝ) ^ (-27 : ℤ) ≤ -Real.log q + e := by linarith
  have u0 : 0 < -Real.log q + e := lt_of_lt_of_le (by positivity) u1
  have u2 : -Real.log q + e ≤ 28 := by
    norm_num at h2
    linarith
  rw [log_pos _ u0, ← EReal.coe_neg]
  refine ⟨_, rfl, ?_⟩
  have v1 := log_bound u1
  have v2 : Real.log (-Real.log q + e) ≤ 28 := (Real.log_le_sub_one_of_pos u0).trans (by linarith)
  rw [abs_neg, abs_lt]
  constructor <;> linarith

end Cert.KernelIdeal.Gumbel

end
-- ==== Proof.RefNoise.lean ====
/- The reference's noise rounded to half precision, read at an index. -/
module

public import proofs.«01_k».proof.Proof.Gen.ReferenceIdeal.Run
public import proofs.«01_k».proof.Proof.RowMax
public import proofs.«01_k».proof.Proof.Nearest
public import proofs.«01_k».proof.Proof.Gumbel
public import Idealize.ShloMosaic.Lib.Pointwise

@[expose] public section

set_option maxRecDepth 16384

noncomputable section

namespace Cert.ReferenceIdeal.Gumbel

open Idealize.ShloMosaic Idealize.ShloMosaic.TcCoe Idealize.ShloMosaic.Tactic
open Cert.ReferenceIdeal Cert.ReferenceIdeal.Gen
open Cert.KernelIdeal.Gumbel (gumbel gumbel_real lead lead_le lead_iff two_pow_mono place place_pos mant nearAbs near)

variable (U : Valuation τ sig (Elt Ideal))

/-- The noise of every element as a function of the random words. -/
def ofWords (w : IVec S128x100000 32) : FVec Ideal S128x100000 .f32 :=
  Host.negf (Host.log (addf (Host.negf (Host.log (addf (subf (bitcastToFloat (F := Ideal) .f32
    (ori (Host.shrui w (broadcastInDim S128x100000 ![] bcast_S_S128x100000 (constantI S_ 32 9#32)))
      (broadcastInDim S128x100000 ![] bcast_S_S128x100000 (constantI S_ 32 1065353216#32))))
    (broadcastInDim S128x100000 ![] bcast_S_S128x100000 (constant S_ .f32 0x3F800000#32)))
    (broadcastInDim S128x100000 ![] bcast_S_S128x100000 (constant S_ .f32 0x322BCC77#32)))))
    (broadcastInDim S128x100000 ![] bcast_S_S128x100000 (constant S_ .f32 0x322BCC77#32))))

theorem ofWords_apply (w : IVec S128x100000 32) (q : S128x100000.Idx) : ofWords w q = gumbel (w q) := rfl

/-- The random words of the last state. -/
def lastWords (x y : IVec S128x100000 32) : IVec S128x100000 32 :=
  xori (addi y (broadcastInDim S128x100000 ![] bcast_S_S128x100000 (constantI S_ 32 3780455752#32)))
    (addi (xori (ori (Host.shli x (broadcastInDim S128x100000 ![] bcast_S_S128x100000 (constantI S_ 32 6#32)))
        (Host.shrui x (broadcastInDim S128x100000 ![] bcast_S_S128x100000 (constantI S_ 32 26#32)))) y)
      (broadcastInDim S128x100000 ![] bcast_S_S128x100000 (constantI S_ 32 928981908#32)))

theorem noise_words : (Value.res_main_v183 U : FVec Ideal S128x100000 .f32)
    = ofWords (lastWords (Value.res_main_v156 U) (Value.res_main_v157 U)) := by
  rw [Value.res_main_v183]
  generalize Value.res_main_v156 U = x
  generalize Value.res_main_v157 U = y
  rfl

/-- The noise of an element: of some random word. -/
theorem noise_word (q : S128x100000.Idx) : ∃ b : BitVec 32, (Value.res_main_v183 U : FVec Ideal S128x100000 .f32) q = gumbel b := by
  exact ⟨_, (congrFun (noise_words U) q).trans (ofWords_apply _ q)⟩

/-- The noise of an element as a real number. -/
def noise (l : Fin 128) (i : Fin 100000) : ℝ := ((Value.res_main_v183 U : FVec Ideal S128x100000 .f32) (ix2 l i) : EReal).toReal

theorem noise_spec (l : Fin 128) (i : Fin 100000) :
    (Value.res_main_v183 U : FVec Ideal S128x100000 .f32) (ix2 l i) = ((noise U l i : ℝ) : EReal) ∧ |noise U l i| < 65536 := by
  obtain ⟨b, hb⟩ := noise_word U (ix2 l i)
  obtain ⟨g, hg, hl⟩ := gumbel_real b
  unfold noise
  rw [hb, hg, EReal.toReal_coe]
  exact ⟨rfl, hl⟩

theorem small_word : Ideal.ofBits .f32 0x38800000#32 = (((2 : ℝ) ^ (-14 : ℤ) : ℝ) : EReal) := by
  simp [Ideal.ofBits, Ideal.ieee]
  rw [← EReal.coe_mul]
  norm_num

theorem thousand_word : Ideal.ofBits .f32 0x44800000#32 = ((1024 : ℝ) : EReal) := by
  simp [Ideal.ofBits, Ideal.ieee]
  rw [← EReal.coe_mul]
  norm_num

/-- The powers of two the reference looks through. -/
theorem powers_apply (k : Fin 30) :
    (Value.res_main_v190 U : FVec Ideal S30 .f32) (ix1 k) = (((2 : ℝ) ^ ((k.val : ℤ) - 14) : ℝ) : EReal) := by
  rw [Value.res_main_v190]
  have e : (IntOp.shli .host 1#32 (BitVec.ofNat 32 k.val)).toInt = 2 ^ k.val := by
    revert k; decide
  have s : FloatOps.sitofp (F := Ideal) .f32 (IntOp.shli .host 1#32 (BitVec.ofNat 32 k.val)) = (((2 : ℝ) ^ k.val : ℝ) : EReal) := by
    show ((((IntOp.shli .host 1#32 (BitVec.ofNat 32 k.val)).toInt : ℤ) : ℝ) : EReal) = _
    rw [e]; push_cast; rfl
  have r : mulf (sitofp (F := Ideal) .f32 (Host.shli (broadcastInDim S30 ![] bcast_S_S30 (constantI S_ 32 1#32)) (iotaInDim S30 32 0)))
      (broadcastInDim S30 ![] bcast_S_S30 (constant S_ .f32 0x38800000#32)) (ix1 k)
      = (FloatOps.sitofp (F := Ideal) .f32 (IntOp.shli .host 1#32 (BitVec.ofNat 32 k.val)) : EReal) * Ideal.ofBits .f32 0x38800000#32 := by
    rfl
  refine r.trans ?_
  rw [s, small_word, ← EReal.coe_mul, sub_eq_add_neg, zpow_add₀ (by norm_num), zpow_natCast]

/-- Inserting a third coordinate. -/
theorem lift_slab {a b n : ℕ} (h : (⟨3, ![a, b, n]⟩ : Shape).Reduces [2] ⟨2, ![a, b]⟩) (i : Fin a) (j : Fin b) (k : Fin n) :
    h.lift (ix2 i j) k = ix3 i j k := by
  funext c
  apply Fin.ext
  fin_cases c
  · rfl
  · rfl
  · rfl

/-- The maximum from −∞ along the last of three axes is the fold of `max` along it. -/
theorem reduce_max_last {a b n : ℕ} (y : FVec Ideal ⟨3, ![a, b, n]⟩ .f32) {u : Shape} (init : FVec Ideal u .f32)
    (h' : (⟨3, ![a, b, n]⟩ : Shape).ReducesTo [2] ⟨2, ![a, b]⟩) (h : (⟨3, ![a, b, n]⟩ : Shape).Reduces [2] ⟨2, ![a, b]⟩)
    (hu : 0 < u.numel) (hi : init (Shape.Idx.first hu) = (⊥ : EReal)) (i : Fin a) (j : Fin b) :
    Host.reduce FloatOps.maximumf y init h' hu (ix2 i j) = (Finset.univ.fold max (⊥ : EReal) fun k : Fin n => y (ix3 i j k)) := by
  rw [Host.reduce_eq_fold_single FloatOps.maximumf y init h' h hu (ix2 i j), hi]
  have e : y ∘ h.lift (ix2 i j) = fun k : Fin n => y (ix3 i j k) := funext fun k => congrArg y (lift_slab h i j k)
  rw [e]
  rfl

theorem reduces_slab : S128x100000x30.Reduces [2] S128x100000 := by decide

/-- The largest power of two at most `a`, from 2⁻¹⁴ up. -/
theorem largest_power (a : ℝ) :
    (Finset.univ.fold max (⊥ : EReal) fun k : Fin 30 => if (2 : ℝ) ^ ((k.val : ℤ) - 14) ≤ a then (((2 : ℝ) ^ ((k.val : ℤ) - 14) : ℝ) : EReal)
        else (((2 : ℝ) ^ (-14 : ℤ) : ℝ) : EReal)) = (((2 : ℝ) ^ ((lead a : ℤ) - 14) : ℝ) : EReal) := by
  have hl := lead_le a
  apply le_antisymm
  · refine (Finset.fold_max_le _).mpr ⟨bot_le, fun k _ => ?_⟩
    split
    · rename_i h
      apply EReal.coe_le_coe_iff.mpr
      apply two_pow_mono
      by_contra hc
      have hk := k.isLt
      have := (lead_iff a (k.val - 1) (by omega)).mp (by
        rwa [show ((k.val - 1 : ℕ) : ℤ) - 13 = (k.val : ℤ) - 14 by omega])
      omega
    · exact EReal.coe_le_coe_iff.mpr (two_pow_mono (by omega))
  · refine (Finset.le_fold_max _).mpr (Or.inr ⟨⟨lead a, by omega⟩, Finset.mem_univ _, ?_⟩)
    split
    · exact le_rfl
    · rename_i h
      apply EReal.coe_le_coe_iff.mpr
      apply two_pow_mono
      by_contra hc
      apply h
      have := (lead_iff a (lead a - 1) (by omega)).mpr (by omega)
      rwa [show ((lead a - 1 : ℕ) : ℤ) - 13 = (lead a : ℤ) - 14 by omega] at this

/-- What the maximum is taken of. -/
def choices (P : FVec Ideal S30 .f32) (z : FVec Ideal S128x100000 .f32) : FVec Ideal S128x100000x30 .f32 :=
  select (cmpf .ole (broadcastInDim S128x100000x30 ![0, 1, 2] bcast_S1x1x30_S128x100000x30_0_1_2 (broadcastInDim S1x1x30 ![2] bcast_S30_S1x1x30_2 P))
      (broadcastInDim S128x100000x30 ![0, 1, 2] bcast_S128x100000x1_S128x100000x30_0_1_2
        (broadcastInDim S128x100000x1 ![0, 1] bcast_S128x100000_S128x100000x1_0_1 z)))
    (broadcastInDim S128x100000x30 ![2] bcast_S30_S128x100000x30_2 P)
    (broadcastInDim S128x100000x30 ![] bcast_S_S128x100000x30 (id (constant S_ .f32 0x38800000#32)))

theorem choices_apply (P : FVec Ideal S30 .f32) (z : FVec Ideal S128x100000 .f32) (l : Fin 128) (i : Fin 100000) (k : Fin 30) :
    choices P z (ix3 l i k) = if (P (ix1 k) : EReal) ≤ z (ix2 l i) then P (ix1 k) else Ideal.ofBits .f32 0x38800000#32 := by
  unfold choices
  pointwise
  rfl

/-- The maximum at an element whose size is `a`. -/
theorem power_apply (z : FVec Ideal S128x100000 .f32) (l : Fin 128) (i : Fin 100000) (a : ℝ) (ha : z (ix2 l i) = (a : EReal)) :
    Host.reduce FloatOps.maximumf (choices (Value.res_main_v190 U) z) (constant S_ .f32 0xFF800000#32) reducesTo_S128x100000x30_S128x100000_d2 h_S_ (ix2 l i)
      = (((2 : ℝ) ^ ((lead a : ℤ) - 14) : ℝ) : EReal) := by
  refine (reduce_max_last (a := 128) (b := 100000) (n := 30) (choices (Value.res_main_v190 U) z) (constant S_ .f32 0xFF800000#32)
    reducesTo_S128x100000x30_S128x100000_d2 reduces_slab h_S_ neg_inf l i).trans ?_
  rw [← largest_power]
  refine Finset.fold_congr fun k _ => ?_
  rw [choices_apply, powers_apply, ha, small_word]
  simp only [EReal.coe_le_coe_iff]

/-- The unit of the last place. -/
theorem place_apply (l : Fin 128) (i : Fin 100000) (a : ℝ) (ha : (Value.res_main_v184 U : FVec Ideal S128x100000 .f32) (ix2 l i) = (a : EReal)) :
    (Value.res_main_v199 U : FVec Ideal S128x100000 .f32) (ix2 l i) = ((place a : ℝ) : EReal) := by
  have h := power_apply U (Value.res_main_v184 U) l i a ha
  rw [Value.res_main_v199]
  change Host.divf (Host.reduce FloatOps.maximumf (choices (Value.res_main_v190 U) (Value.res_main_v184 U)) (constant S_ .f32 0xFF800000#32)
    reducesTo_S128x100000x30_S128x100000_d2 h_S_) (broadcastInDim S128x100000 ![] bcast_S_S128x100000 (constant S_ .f32 0x44800000#32)) (ix2 l i) = _
  generalize Host.reduce FloatOps.maximumf (choices (Value.res_main_v190 U) (Value.res_main_v184 U)) (constant S_ .f32 0xFF800000#32)
    reducesTo_S128x100000x30_S128x100000_d2 h_S_ = p at h ⊢
  have e : Host.divf p (broadcastInDim S128x100000 ![] bcast_S_S128x100000 (constant S_ .f32 0x44800000#32)) (ix2 l i)
      = Ideal.div (p (ix2 l i)) (Ideal.ofBits .f32 0x44800000#32) := rfl
  rw [e, h, thousand_word]
  unfold Ideal.div place
  rw [if_neg (by exact_mod_cast (by norm_num : (1024 : ℝ) ≠ 0)), ← EReal.coe_inv, ← EReal.coe_mul]
  congr 1
  rw [show (lead a : ℤ) - 14 = ((lead a : ℤ) - 24) + 10 by ring, zpow_add₀ (by norm_num)]
  norm_num
  ring

/-- The multiple of the unit nearest the size. -/
theorem multiple_apply (l : Fin 128) (i : Fin 100000) (a : ℝ) (ha : (Value.res_main_v184 U : FVec Ideal S128x100000 .f32) (ix2 l i) = (a : EReal)) :
    (Value.res_main_v202 U : FVec Ideal S128x100000 .f32) (ix2 l i) = (((mant a : ℝ) * place a : ℝ) : EReal) := by
  have h := place_apply U l i a ha
  rw [Value.res_main_v202]
  generalize Value.res_main_v199 U = p at h ⊢
  generalize Value.res_main_v184 U = z at ha ⊢
  change Ideal.liftRound Ideal.roundHalfEven (Ideal.div (z (ix2 l i)) (p (ix2 l i))) * (p (ix2 l i) : EReal) = _
  rw [h, ha]
  have d : Ideal.div (a : EReal) ((place a : ℝ) : EReal) = ((a * (2 : ℝ) ^ (24 - (lead a : ℤ)) : ℝ) : EReal) := by
    unfold Ideal.div
    rw [if_neg (by exact_mod_cast (place_pos a).ne'), ← EReal.coe_inv, ← EReal.coe_mul]
    congr 2
    unfold place
    rw [← zpow_neg]
    congr 1
    ring
  rw [d, Ideal.liftRound_coe, ← EReal.coe_mul]
  rfl

theorem nearAbs_apply (l : Fin 128) (i : Fin 100000) (a : ℝ) (ha : (Value.res_main_v184 U : FVec Ideal S128x100000 .f32) (ix2 l i) = (a : EReal)) :
    (Value.res_main_v205 U : FVec Ideal S128x100000 .f32) (ix2 l i) = ((nearAbs a : ℝ) : EReal) := by
  have h := multiple_apply U l i a ha
  rw [Value.res_main_v205]
  generalize Value.res_main_v202 U = p at h ⊢
  change Scalar.select (Ideal.cmp .olt (p (ix2 l i)) (Ideal.ofBits .f32 0x38800000#32)) (Ideal.ofBits .f32 0x00000000#32) (p (ix2 l i) : EReal) = _
  rw [h, small_word]
  unfold nearAbs
  by_cases hb : (mant a : ℝ) * place a < (2 : ℝ) ^ (-14 : ℤ)
  · have c : Ideal.cmp .olt (((mant a : ℝ) * place a : ℝ) : EReal) (((2 : ℝ) ^ (-14 : ℤ) : ℝ) : EReal) = 1#1 := by
      show BitVec.ofBool (decide _) = _
      rw [decide_eq_true (EReal.coe_lt_coe_iff.mpr hb)]; rfl
    rw [c, if_pos hb]
    show Ideal.ofBits .f32 0x00000000#32 = _
    simp [Ideal.ofBits, Ideal.ieee]
  · have c : Ideal.cmp .olt (((mant a : ℝ) * place a : ℝ) : EReal) (((2 : ℝ) ^ (-14 : ℤ) : ℝ) : EReal) = 0#1 := by
      show BitVec.ofBool (decide _) = _
      rw [decide_eq_false (fun h => hb (EReal.coe_lt_coe_iff.mp h))]; rfl
    rw [c, if_neg hb]
    rfl

/-- The absolute value of an element. -/
theorem absf_apply (z : FVec Ideal S128x100000 .f32) (q : S128x100000.Idx) (g : ℝ) (h : z q = (g : EReal)) :
    Host.absf z q = ((|g| : ℝ) : EReal) := by
  have e : Host.absf z q = max (z q : EReal) (-(z q : EReal)) := rfl
  rw [e, h, ← EReal.coe_neg]
  exact (EReal.coe_strictMono.monotone.map_max (a := g) (b := -g)).symm

/-- An element with the sign of the noise put back. -/
theorem signed_apply (z p : FVec Ideal S128x100000 .f32) (q : S128x100000.Idx) (g : ℝ) (hz : z q = (g : EReal))
    (hp : p q = ((nearAbs |g| : ℝ) : EReal)) :
    select (cmpf .olt z (broadcastInDim S128x100000 ![] bcast_S_S128x100000 (constant S_ .f32 0x00000000#32))) (Host.negf p) p q
      = ((near g : ℝ) : EReal) := by
  have e : select (cmpf .olt z (broadcastInDim S128x100000 ![] bcast_S_S128x100000 (constant S_ .f32 0x00000000#32))) (Host.negf p) p q
      = Scalar.select (Ideal.cmp .olt (z q) (Ideal.ofBits .f32 0x00000000#32)) (-(p q : EReal)) (p q : EReal) := rfl
  rw [e, hz, hp, show Ideal.ofBits .f32 0x00000000#32 = ((0 : ℝ) : EReal) by simp [Ideal.ofBits, Ideal.ieee]]
  unfold near
  by_cases hb : g < 0
  · have c : Ideal.cmp .olt (g : EReal) ((0 : ℝ) : EReal) = 1#1 := by
      show BitVec.ofBool (decide _) = _
      rw [decide_eq_true (EReal.coe_lt_coe_iff.mpr hb)]; rfl
    rw [c, if_pos hb, EReal.coe_neg]
    rfl
  · have c : Ideal.cmp .olt (g : EReal) ((0 : ℝ) : EReal) = 0#1 := by
      show BitVec.ofBool (decide _) = _
      rw [decide_eq_false (fun h => hb (EReal.coe_lt_coe_iff.mp h))]; rfl
    rw [c, if_neg hb]
    rfl

theorem addf_apply (x z : FVec Ideal S128x100000 .f32) (q : S128x100000.Idx) : addf x z q = (x q : EReal) + (z q : EReal) := rfl

/-- The logits. -/
abbrev logits : FVec Ideal S128x100000 .f32 := U (Proc.devRef .tc main_arg0)

/-- The sum the softmax is taken of. -/
abbrev noisy : FVec Ideal S128x100000 .f32 := Value.res_main_v210 U

/-- It is the logit and the rounded noise. -/
theorem noisy_apply (l : Fin 128) (i : Fin 100000) :
    noisy U (ix2 l i) = (logits U (ix2 l i) : EReal) + ((near (noise U l i) : ℝ) : EReal) := by
  have hn := (noise_spec U l i).1
  have ha : (Value.res_main_v184 U : FVec Ideal S128x100000 .f32) (ix2 l i) = ((|noise U l i| : ℝ) : EReal) := by
    rw [Value.res_main_v184]
    exact absf_apply _ _ _ hn
  have h := nearAbs_apply U l i _ ha
  have s := signed_apply _ _ _ _ hn h
  unfold noisy
  rw [Value.res_main_v210]
  refine (addf_apply _ _ _).trans ?_
  exact congrArg (fun a : EReal => (logits U (ix2 l i) : EReal) + a) s

end Cert.ReferenceIdeal.Gumbel

end
-- ==== Proof.Words4.lean ====
/- The words of the last state, and the noise they make. -/
module

public import proofs.«01_k».proof.Proof.Stage
public import proofs.«01_k».proof.Proof.RefNoise

@[expose] public section

set_option maxRecDepth 16384

noncomputable section

namespace Cert.KernelIdeal.Gumbel

open Idealize.ShloMosaic Idealize.ShloMosaic.TcCoe Idealize.ShloMosaic.Tactic
open Cert.KernelIdeal Cert.KernelIdeal.Gen

variable (W : Valuation τ sig (Elt Ideal)) (U : Valuation Cert.ReferenceIdeal.τ Cert.ReferenceIdeal.sig (Elt Ideal))

/-- The random words of the last state. -/
theorem words_168 (x y : IVec Cert.ReferenceIdeal.S128x100000 32) (hx : (stage W 207 (Proc.devRef .tc main_v156) : IVec S100000x128 32) = turned x)
    (hy : (stage W 207 (Proc.devRef .tc main_v157) : IVec S100000x128 32) = turned y) :
    (stage W 222 (Proc.devRef .tc main_v168) : IVec S100000x128 32) = turned (Cert.ReferenceIdeal.Gumbel.lastWords x y) := by
  rw [show (222 : ℕ) = 207 + 15 from rfl, stage_add]
  generalize stage W 207 = σ at hx hy ⊢
  simp only [hostOps0, List.drop_succ_cons, List.drop_zero, List.take_succ_cons, List.take_zero]
  after_results
  rw [hx, hy]
  rfl

/-- The noise of the words: two logarithms. -/
theorem words_183 (w : IVec Cert.ReferenceIdeal.S128x100000 32) (h : (stage W 222 (Proc.devRef .tc main_v168) : IVec S100000x128 32) = turned w) :
    (stage W 242 (Proc.devRef .tc main_v183) : FVec Ideal S100000x128 .f32) = turned (Cert.ReferenceIdeal.Gumbel.ofWords w) := by
  rw [show (242 : ℕ) = 222 + 20 from rfl, stage_add]
  generalize stage W 222 = σ at h ⊢
  simp only [hostOps0, List.drop_succ_cons, List.drop_zero, List.take_succ_cons, List.take_zero]
  after_results
  rw [h]
  rfl

end Cert.KernelIdeal.Gumbel

end
-- ==== Proof.Words.lean ====
/- The noise the kernel makes is the noise the reference makes, with the axes exchanged. -/
module

public import proofs.«01_k».proof.Proof.Words1
public import proofs.«01_k».proof.Proof.Words2
public import proofs.«01_k».proof.Proof.Words3
public import proofs.«01_k».proof.Proof.Words4

@[expose] public section

set_option maxRecDepth 16384

noncomputable section

namespace Cert.KernelIdeal.Gumbel

open Idealize.ShloMosaic Idealize.ShloMosaic.TcCoe Idealize.ShloMosaic.Tactic
open Cert.KernelIdeal Cert.KernelIdeal.Gen

variable (W : Valuation τ sig (Elt Ideal)) (U : Valuation Cert.ReferenceIdeal.τ Cert.ReferenceIdeal.sig (Elt Ideal))

/-- The two words after step 0 agree. -/
def First0 : Prop := (stage W 12 (Proc.devRef .tc main_v7) : IVec S100000x128 32) = turned (Cert.ReferenceIdeal.Value.res_main_v7 U)
def Second0 : Prop := (stage W 12 (Proc.devRef .tc main_v8) : IVec S100000x128 32) = turned (Cert.ReferenceIdeal.Value.res_main_v8 U)
theorem step0 : First0 W U ∧ Second0 W U := words_7 W U

/-- The two words after step 1 agree. -/
def First1 : Prop := (stage W 21 (Proc.devRef .tc main_v14) : IVec S100000x128 32) = turned (Cert.ReferenceIdeal.Value.res_main_v14 U)
def Second1 : Prop := (stage W 21 (Proc.devRef .tc main_v15) : IVec S100000x128 32) = turned (Cert.ReferenceIdeal.Value.res_main_v15 U)
theorem step1 : First1 W U ∧ Second1 W U := words_14 W U (step0 W U).1 (step0 W U).2

/-- The two words after step 2 agree. -/
def First2 : Prop := (stage W 30 (Proc.devRef .tc main_v21) : IVec S100000x128 32) = turned (Cert.ReferenceIdeal.Value.res_main_v21 U)
def Second2 : Prop := (stage W 30 (Proc.devRef .tc main_v22) : IVec S100000x128 32) = turned (Cert.ReferenceIdeal.Value.res_main_v22 U)
theorem step2 : First2 W U ∧ Second2 W U := words_21 W U (step1 W U).1 (step1 W U).2

/-- The two words after step 3 agree. -/
def First3 : Prop := (stage W 39 (Proc.devRef .tc main_v28) : IVec S100000x128 32) = turned (Cert.ReferenceIdeal.Value.res_main_v28 U)
def Second3 : Prop := (stage W 39 (Proc.devRef .tc main_v29) : IVec S100000x128 32) = turned (Cert.ReferenceIdeal.Value.res_main_v29 U)
theorem step3 : First3 W U ∧ Second3 W U := words_28 W U (step2 W U).1 (step2 W U).2

/-- The two words after step 4 agree. -/
def First4 : Prop := (stage W 54 (Proc.devRef .tc main_v39) : IVec S100000x128 32) = turned (Cert.ReferenceIdeal.Value.res_main_v39 U)
def Second4 : Prop := (stage W 54 (Proc.devRef .tc main_v40) : IVec S100000x128 32) = turned (Cert.ReferenceIdeal.Value.res_main_v40 U)
theorem step4 : First4 W U ∧ Second4 W U := words_39 W U (step3 W U).1 (step3 W U).2

/-- The two words after step 5 agree. -/
def First5 : Prop := (stage W 63 (Proc.devRef .tc main_v46) : IVec S100000x128 32) = turned (Cert.ReferenceIdeal.Value.res_main_v46 U)
def Second5 : Prop := (stage W 63 (Proc.devRef .tc main_v47) : IVec S100000x128 32) = turned (Cert.ReferenceIdeal.Value.res_main_v47 U)
theorem step5 : First5 W U ∧ Second5 W U := words_46 W U (step4 W U).1 (step4 W U).2

/-- The two words after step 6 agree. -/
def First6 : Prop := (stage W 72 (Proc.devRef .tc main_v53) : IVec S100000x128 32) = turned (Cert.ReferenceIdeal.Value.res_main_v53 U)
def Second6 : Prop := (stage W 72 (Proc.devRef .tc main_v54) : IVec S100000x128 32) = turned (Cert.ReferenceIdeal.Value.res_main_v54 U)
theorem step6 : First6 W U ∧ Second6 W U := words_53 W U (step5 W U).1 (step5 W U).2

/-- The two words after step 7 agree. -/
def First7 : Prop := (stage W 81 (Proc.devRef .tc main_v60) : IVec S100000x128 32) = turned (Cert.ReferenceIdeal.Value.res_main_v60 U)
def Second7 : Prop := (stage W 81 (Proc.devRef .tc main_v61) : IVec S100000x128 32) = turned (Cert.ReferenceIdeal.Value.res_main_v61 U)
theorem step7 : First7 W U ∧ Second7 W U := words_60 W U (step6 W U).1 (step6 W U).2

/-- The two words after step 8 agree. -/
def First8 : Prop := (stage W 96 (Proc.devRef .tc main_v71) : IVec S100000x128 32) = turned (Cert.ReferenceIdeal.Value.res_main_v71 U)
def Second8 : Prop := (stage W 96 (Proc.devRef .tc main_v72) : IVec S100000x128 32) = turned (Cert.ReferenceIdeal.Value.res_main_v72 U)
theorem step8 : First8 W U ∧ Second8 W U := words_71 W U (step7 W U).1 (step7 W U).2

/-- The two words after step 9 agree. -/
def First9 : Prop := (stage W 105 (Proc.devRef .tc main_v78) : IVec S100000x128 32) = turned (Cert.ReferenceIdeal.Value.res_main_v78 U)
def Second9 : Prop := (stage W 105 (Proc.devRef .tc main_v79) : IVec S100000x128 32) = turned (Cert.ReferenceIdeal.Value.res_main_v79 U)
theorem step9 : First9 W U ∧ Second9 W U := words_78 W U (step8 W U).1 (step8 W U).2

/-- The two words after step 10 agree. -/
def First10 : Prop := (stage W 114 (Proc.devRef .tc main_v85) : IVec S100000x128 32) = turned (Cert.ReferenceIdeal.Value.res_main_v85 U)
def Second10 : Prop := (stage W 114 (Proc.devRef .tc main_v86) : IVec S100000x128 32) = turned (Cert.ReferenceIdeal.Value.res_main_v86 U)
theorem step10 : First10 W U ∧ Second10 W U := words_85 W U (step9 W U).1 (step9 W U).2

/-- The two words after step 11 agree. -/
def First11 : Prop := (stage W 123 (Proc.devRef .tc main_v92) : IVec S100000x128 32) = turned (Cert.ReferenceIdeal.Value.res_main_v92 U)
def Second11 : Prop := (stage W 123 (Proc.devRef .tc main_v93) : IVec S100000x128 32) = turned (Cert.ReferenceIdeal.Value.res_main_v93 U)
theorem step11 : First11 W U ∧ Second11 W U := words_92 W U (step10 W U).1 (step10 W U).2

/-- The two words after step 12 agree. -/
def First12 : Prop := (stage W 138 (Proc.devRef .tc main_v103) : IVec S100000x128 32) = turned (Cert.ReferenceIdeal.Value.res_main_v103 U)
def Second12 : Prop := (stage W 138 (Proc.devRef .tc main_v104) : IVec S100000x128 32) = turned (Cert.ReferenceIdeal.Value.res_main_v104 U)
theorem step12 : First12 W U ∧ Second12 W U := words_103 W U (step11 W U).1 (step11 W U).2

/-- The two words after step 13 agree. -/
def First13 : Prop := (stage W 147 (Proc.devRef .tc main_v110) : IVec S100000x128 32) = turned (Cert.ReferenceIdeal.Value.res_main_v110 U)
def Second13 : Prop := (stage W 147 (Proc.devRef .tc main_v111) : IVec S100000x128 32) = turned (Cert.ReferenceIdeal.Value.res_main_v111 U)
theorem step13 : First13 W U ∧ Second13 W U := words_110 W U (step12 W U).1 (step12 W U).2

/-- The two words after step 14 agree. -/
def First14 : Prop := (stage W 156 (Proc.devRef .tc main_v117) : IVec S100000x128 32) = turned (Cert.ReferenceIdeal.Value.res_main_v117 U)
def Second14 : Prop := (stage W 156 (Proc.devRef .tc main_v118) : IVec S100000x128 32) = turned (Cert.ReferenceIdeal.Value.res_main_v118 U)
theorem step14 : First14 W U ∧ Second14 W U := words_117 W U (step13 W U).1 (step13 W U).2

/-- The two words after step 15 agree. -/
def First15 : Prop := (stage W 165 (Proc.devRef .tc main_v124) : IVec S100000x128 32) = turned (Cert.ReferenceIdeal.Value.res_main_v124 U)
def Second15 : Prop := (stage W 165 (Proc.devRef .tc main_v125) : IVec S100000x128 32) = turned (Cert.ReferenceIdeal.Value.res_main_v125 U)
theorem step15 : First15 W U ∧ Second15 W U := words_124 W U (step14 W U).1 (step14 W U).2

/-- The two words after step 16 agree. -/
def First16 : Prop := (stage W 180 (Proc.devRef .tc main_v135) : IVec S100000x128 32) = turned (Cert.ReferenceIdeal.Value.res_main_v135 U)
def Second16 : Prop := (stage W 180 (Proc.devRef .tc main_v136) : IVec S100000x128 32) = turned (Cert.ReferenceIdeal.Value.res_main_v136 U)
theorem step16 : First16 W U ∧ Second16 W U := words_135 W U (step15 W U).1 (step15 W U).2

/-- The two words after step 17 agree. -/
def First17 : Prop := (stage W 189 (Proc.devRef .tc main_v142) : IVec S100000x128 32) = turned (Cert.ReferenceIdeal.Value.res_main_v142 U)
def Second17 : Prop := (stage W 189 (Proc.devRef .tc main_v143) : IVec S100000x128 32) = turned (Cert.ReferenceIdeal.Value.res_main_v143 U)
theorem step17 : First17 W U ∧ Second17 W U := words_142 W U (step16 W U).1 (step16 W U).2

/-- The two words after step 18 agree. -/
def First18 : Prop := (stage W 198 (Proc.devRef .tc main_v149) : IVec S100000x128 32) = turned (Cert.ReferenceIdeal.Value.res_main_v149 U)
def Second18 : Prop := (stage W 198 (Proc.devRef .tc main_v150) : IVec S100000x128 32) = turned (Cert.ReferenceIdeal.Value.res_main_v150 U)
theorem step18 : First18 W U ∧ Second18 W U := words_149 W U (step17 W U).1 (step17 W U).2

/-- The two words after step 19 agree. -/
def First19 : Prop := (stage W 207 (Proc.devRef .tc main_v156) : IVec S100000x128 32) = turned (Cert.ReferenceIdeal.Value.res_main_v156 U)
def Second19 : Prop := (stage W 207 (Proc.devRef .tc main_v157) : IVec S100000x128 32) = turned (Cert.ReferenceIdeal.Value.res_main_v157 U)
theorem step19 : First19 W U ∧ Second19 W U := words_156 W U (step18 W U).1 (step18 W U).2

theorem noise_eq : (stage W 242 (Proc.devRef .tc main_v183) : FVec Ideal S100000x128 .f32) = turned (Cert.ReferenceIdeal.Value.res_main_v183 U) :=
  (words_183 W _ (words_168 W _ _ (step19 W U).1 (step19 W U).2)).trans (congrArg turned (Cert.ReferenceIdeal.Gumbel.noise_words U).symm)

end Cert.KernelIdeal.Gumbel

end
-- ==== Proof.Encode.lean ====
/- The kernel's codes of the noise, read at an index. -/
module

public import proofs.«01_k».proof.Proof.Gen.KernelIdeal.Frame
public import proofs.«01_k».proof.Proof.Nearest
public import Idealize.ShloMosaic.Lib.Pointwise
public import Idealize.ShloMosaic.Lib.Routing.OpsSearch
public import Idealize.ShloMosaic.Lib.Pipeline.Value

@[expose] public section

set_option maxRecDepth 16384

noncomputable section

namespace Cert.KernelIdeal.Gumbel

open Idealize.ShloMosaic Idealize.ShloMosaic.TcCoe Idealize.ShloMosaic.Tactic
open Cert.KernelIdeal Cert.KernelIdeal.Gen

/-- The powers of two the sizes are compared with. -/
def bounds : FVec Ideal S29 .f32 :=
  mulf (sitofp .f32 (Host.shli (broadcastInDim S29 ![] bcast_S_S29 (constantI S_ 32 1#32)) (iotaInDim S29 32 0)))
    (broadcastInDim S29 ![] bcast_S_S29 (constant S_ .f32 0x39000000#32))

/-- Which of them each size is at least. -/
def reached (a : FVec Ideal S100000x128 .f32) : IVec S29x100000x128 1 :=
  cmpf .oge (broadcastInDim S29x100000x128 ![0, 1, 2] bcast_S1x100000x128_S29x100000x128_0_1_2
      (broadcastInDim S1x100000x128 ![1, 2] bcast_S100000x128_S1x100000x128_1_2 a))
    (broadcastInDim S29x100000x128 ![0, 1, 2] bcast_S29x1x1_S29x100000x128_0_1_2 (broadcastInDim S29x1x1 ![0] bcast_S29_S29x1x1_0 bounds))

/-- How many. -/
def leads (a : FVec Ideal S100000x128 .f32) : IVec S100000x128 32 :=
  Host.reduce IntOp.addi (select (reached a) (broadcastInDim S29x100000x128 ![] bcast_S_S29x100000x128 (constantI S_ 32 1#32))
    (broadcastInDim S29x100000x128 ![] bcast_S_S29x100000x128 (constantI S_ 32 0#32))) (constantI S_ 32 0#32)
    reducesTo_S29x100000x128_S100000x128_d0 h_S_

/-- The multiples of the last place. -/
def multiples (a : FVec Ideal S100000x128 .f32) (c : IVec S100000x128 32) : IVec S100000x128 32 :=
  fptosi 32 (Host.roundeven (mulf a (mulf (sitofp .f32 (Host.shli (broadcastInDim S100000x128 ![] bcast_S_S100000x128 (constantI S_ 32 1#32))
      (subi (broadcastInDim S100000x128 ![] bcast_S_S100000x128 (constantI S_ 32 29#32)) c)))
    (broadcastInDim S100000x128 ![] bcast_S_S100000x128 (constant S_ .f32 0x3D000000#32)))))

/-- The codes before the small numbers are sent to zero. -/
def raws (c m : IVec S100000x128 32) : IVec S100000x128 32 :=
  addi (muli c (broadcastInDim S100000x128 ![] bcast_S_S100000x128 (constantI S_ 32 1024#32))) m

/-- The codes. -/
def signs (g : FVec Ideal S100000x128 .f32) (n : IVec S100000x128 32) : IVec S100000x128 32 :=
  ori (select (cmpf .olt g (broadcastInDim S100000x128 ![] bcast_S_S100000x128 (constant S_ .f32 0x00000000#32)))
      (broadcastInDim S100000x128 ![] bcast_S_S100000x128 (constantI S_ 32 32768#32))
      (broadcastInDim S100000x128 ![] bcast_S_S100000x128 (constantI S_ 32 0#32)))
    (select (cmpi .eq (andi n (broadcastInDim S100000x128 ![] bcast_S_S100000x128 (constantI S_ 32 31744#32)))
        (broadcastInDim S100000x128 ![] bcast_S_S100000x128 (constantI S_ 32 0#32)))
      (broadcastInDim S100000x128 ![] bcast_S_S100000x128 (constantI S_ 32 0#32)) n)

/-- The two halves of the rows packed into words. -/
def packed (n : IVec S100000x128 32) : IVec S50000x128 32 :=
  ori (extractStridedSlice S50000x128 ![0, 0] n slices_S100000x128_S50000x128_0_0)
    (Host.shli (extractStridedSlice S50000x128 ![50000, 0] n slices_S100000x128_S50000x128_50000_0)
      (broadcastInDim S50000x128 ![] bcast_S_S50000x128 (constantI S_ 32 16#32)))

theorem bounds_apply (k : Fin 29) : bounds (ix1 k) = (((2 : ℝ) ^ ((k.val : ℤ) - 13) : ℝ) : EReal) := by
  have e : (IntOp.shli .host 1#32 (BitVec.ofNat 32 k.val)).toInt = 2 ^ k.val := by
    revert k; decide
  have s : FloatOps.sitofp (F := Ideal) .f32 (IntOp.shli .host 1#32 (BitVec.ofNat 32 k.val)) = (((2 : ℝ) ^ k.val : ℝ) : EReal) := by
    show ((((IntOp.shli .host 1#32 (BitVec.ofNat 32 k.val)).toInt : ℤ) : ℝ) : EReal) = _
    rw [e]; push_cast; rfl
  have w : Ideal.ofBits .f32 0x39000000#32 = (((2 : ℝ) ^ (-13 : ℤ) : ℝ) : EReal) := by
    simp [Ideal.ofBits, Ideal.ieee]
    rw [← EReal.coe_mul]
    norm_num
  have r : bounds (ix1 k) = (FloatOps.sitofp (F := Ideal) .f32 (IntOp.shli .host 1#32 (BitVec.ofNat 32 k.val)) : EReal) * Ideal.ofBits .f32 0x39000000#32 := by
    rfl
  refine r.trans ?_
  rw [s, w, ← EReal.coe_mul, sub_eq_add_neg, zpow_add₀ (by norm_num), zpow_natCast]

theorem reached_apply (z : FVec Ideal S100000x128 .f32) (i : Fin 100000) (l : Fin 128) (a : ℝ) (ha : z (ix2 i l) = (a : EReal)) (k : Fin 29) :
    reached z (ix3 k i l) = 1#1 ↔ (2 : ℝ) ^ ((k.val : ℤ) - 13) ≤ a := by
  have b := bounds_apply k
  unfold reached
  generalize bounds = p at b ⊢
  have e : cmpf .oge (broadcastInDim S29x100000x128 ![0, 1, 2] bcast_S1x100000x128_S29x100000x128_0_1_2
      (broadcastInDim S1x100000x128 ![1, 2] bcast_S100000x128_S1x100000x128_1_2 z))
    (broadcastInDim S29x100000x128 ![0, 1, 2] bcast_S29x1x1_S29x100000x128_0_1_2 (broadcastInDim S29x1x1 ![0] bcast_S29_S29x1x1_0 p)) (ix3 k i l)
      = Ideal.cmp .oge (z (ix2 i l)) (p (ix1 k)) := by
    pointwise
  rw [e, ha, b]
  show BitVec.ofBool (decide _) = 1#1 ↔ _
  by_cases h : (2 : ℝ) ^ ((k.val : ℤ) - 13) ≤ a
  · rw [decide_eq_true (EReal.coe_le_coe_iff.mpr h)]
    exact ⟨fun _ => h, fun _ => rfl⟩
  · rw [decide_eq_false (fun h' => h (EReal.coe_le_coe_iff.mp h'))]
    exact ⟨fun e => absurd e (by decide), fun h' => absurd h' h⟩

/-- The ones and zeros that are summed are the comparisons' bits. -/
theorem ones_eq (x : IVec S29x100000x128 1) :
    select x (broadcastInDim S29x100000x128 ![] bcast_S_S29x100000x128 (constantI S_ 32 1#32))
      (broadcastInDim S29x100000x128 ![] bcast_S_S29x100000x128 (constantI S_ 32 0#32)) = extui 32 x (by decide) := by
  funext q
  have e : ∀ b : BitVec 1, Scalar.select b 1#32 0#32 = b.setWidth 32 := by decide
  exact e (x q)

theorem leads_apply (z : FVec Ideal S100000x128 .f32) (i : Fin 100000) (l : Fin 128) (a : ℝ) (ha : z (ix2 i l) = (a : EReal)) :
    leads z (ix2 i l) = BitVec.ofNat 32 (lead a) := by
  classical
  unfold leads lead
  rw [ones_eq]
  exact Routing.reduce_count_slabs (N := 29) (a := 100000) (b := 128) (by norm_num) (reached z) (by decide) reducesTo_S29x100000x128_S100000x128_d0 h_S_ i l
    (fun k : ℕ => (2 : ℝ) ^ ((k : ℤ) - 13) ≤ a) (fun k => reached_apply z i l a ha k)

theorem multiples_apply (z : FVec Ideal S100000x128 .f32) (c : IVec S100000x128 32) (q : S100000x128.Idx) (a : ℝ) (ha : z q = (a : EReal))
    (h0 : 0 ≤ a) (h1 : a < 65536) (hc : c q = BitVec.ofNat 32 (lead a)) : multiples z c q = BitVec.ofInt 32 (mant a) := by
  have hl := lead_le a
  have e : multiples z c q = Ideal.fptosi 32 (Ideal.liftRound Ideal.roundHalfEven ((z q : EReal)
      * ((FloatOps.sitofp (F := Ideal) .f32 (IntOp.shli .host 1#32 (29#32 - c q)) : EReal) * Ideal.ofBits .f32 0x3D000000#32))) := rfl
  have t : (IntOp.shli .host 1#32 (29#32 - BitVec.ofNat 32 (lead a))).toInt = 2 ^ (29 - lead a) := by
    generalize lead a = n at hl
    interval_cases n <;> rfl
  have s : FloatOps.sitofp (F := Ideal) .f32 (IntOp.shli .host 1#32 (29#32 - BitVec.ofNat 32 (lead a))) = (((2 : ℝ) ^ (29 - lead a) : ℝ) : EReal) := by
    show ((((IntOp.shli .host 1#32 (29#32 - BitVec.ofNat 32 (lead a))).toInt : ℤ) : ℝ) : EReal) = _
    rw [t]; push_cast; rfl
  have w : Ideal.ofBits .f32 0x3D000000#32 = (((2 : ℝ) ^ (-5 : ℤ) : ℝ) : EReal) := by
    simp [Ideal.ofBits, Ideal.ieee]
    rw [← EReal.coe_mul]
    norm_num
  have p : ((2 : ℝ) ^ (29 - lead a) : ℝ) * (2 : ℝ) ^ (-5 : ℤ) = (2 : ℝ) ^ (24 - (lead a : ℤ)) := by
    rw [← zpow_natCast, ← zpow_add₀ (by norm_num)]
    congr 1
    omega
  rw [e, ha, hc, s, w, ← EReal.coe_mul, ← EReal.coe_mul, p, Ideal.liftRound_coe]
  have m0 := mant_nonneg h0
  have m1 := mant_le h1
  show BitVec.ofInt 32 (max _ (min _ (if (0 : ℝ) ≤ ((mant a : ℤ) : ℝ) then ⌊((mant a : ℤ) : ℝ)⌋ else ⌈((mant a : ℤ) : ℝ)⌉))) = _
  rw [if_pos (by exact_mod_cast m0), Int.floor_intCast, min_eq_right (by norm_num; omega), max_eq_right (by norm_num; omega)]

/-- The code of the noise at an index. -/
theorem code_apply (z : FVec Ideal S100000x128 .f32) (i : Fin 100000) (l : Fin 128) (g : ℝ) (hg : z (ix2 i l) = (g : EReal)) (h1 : |g| < 65536) :
    signs z (raws (leads (Host.absf z)) (multiples (Host.absf z) (leads (Host.absf z)))) (ix2 i l) = codeOf g := by
  have ha : Host.absf z (ix2 i l) = ((|g| : ℝ) : EReal) := by
    have e : Host.absf z (ix2 i l) = max (z (ix2 i l) : EReal) (-(z (ix2 i l) : EReal)) := rfl
    rw [e, hg, ← EReal.coe_neg]
    exact (EReal.coe_strictMono.monotone.map_max (a := g) (b := -g)).symm
  have hc := leads_apply _ i l _ ha
  have hm := multiples_apply _ _ (ix2 i l) _ ha (abs_nonneg g) h1 hc
  generalize multiples (Host.absf z) (leads (Host.absf z)) = m at hm ⊢
  generalize leads (Host.absf z) = c at hc ⊢
  have hr : raws c m (ix2 i l) = rawCode |g| := by
    have e : raws c m (ix2 i l) = c (ix2 i l) * 1024#32 + m (ix2 i l) := rfl
    rw [e, hc, hm]
    rfl
  generalize raws c m = n at hr ⊢
  have e : signs z n (ix2 i l) = Scalar.select (Ideal.cmp .olt (z (ix2 i l)) (Ideal.ofBits .f32 0x00000000#32)) 32768#32 0#32
      ||| Scalar.select (IntOp.cmpi .eq (n (ix2 i l) &&& 31744#32) 0#32) 0#32 (n (ix2 i l)) := rfl
  rw [e, hr, hg, show Ideal.ofBits .f32 0x00000000#32 = ((0 : ℝ) : EReal) by simp [Ideal.ofBits, Ideal.ieee]]
  unfold codeOf
  congr 1
  · by_cases hb : g < 0
    · have d : Ideal.cmp .olt (g : EReal) ((0 : ℝ) : EReal) = 1#1 := by
        show BitVec.ofBool (decide _) = _
        rw [decide_eq_true (EReal.coe_lt_coe_iff.mpr hb)]; rfl
      rw [d, if_pos hb]
      rfl
    · have d : Ideal.cmp .olt (g : EReal) ((0 : ℝ) : EReal) = 0#1 := by
        show BitVec.ofBool (decide _) = _
        rw [decide_eq_false (fun h => hb (EReal.coe_lt_coe_iff.mp h))]; rfl
      rw [d, if_neg hb]
      rfl
  · by_cases hb : rawCode |g| &&& 31744#32 = 0#32
    · rw [if_pos hb, hb]
      rfl
    · have d : IntOp.cmpi .eq (rawCode |g| &&& 31744#32) 0#32 = 0#1 := by
        show BitVec.ofBool (_ == 0#32) = 0#1
        rw [beq_eq_false_iff_ne.mpr hb]; rfl
      rw [d, if_neg hb]
      rfl

/-- A word's low half, -/
theorem low_half (a b : BitVec 32) (ha : a.toNat < 65536) : (a ||| b <<< 16) &&& 65535#32 = a := by
  apply BitVec.eq_of_toNat_eq
  apply Nat.eq_of_testBit_eq
  intro i
  simp only [BitVec.toNat_and, BitVec.toNat_or, Nat.testBit_and, Nat.testBit_or]
  have m : (65535#32 : BitVec 32).toNat.testBit i = decide (i < 16) := by
    show (2 ^ 16 - 1).testBit i = _
    exact Nat.testBit_two_pow_sub_one 16 i
  rw [m]
  by_cases hi : i < 16
  · have z : (b <<< 16).toNat.testBit i = false := by
      rw [← BitVec.getLsbD, BitVec.getLsbD_shiftLeft]
      simp [hi]
    rw [z]
    simp [hi]
  · rw [Nat.testBit_lt_two_pow (lt_of_lt_of_le ha (Nat.pow_le_pow_right (n := 2) (by norm_num) (show 16 ≤ i by omega)))]
    simp [hi]

/-- and its high half. -/
theorem high_half (a b : BitVec 32) (ha : a.toNat < 65536) (hb : b.toNat < 65536) : (a ||| b <<< 16) >>> 16 = b := by
  apply BitVec.eq_of_toNat_eq
  rw [BitVec.toNat_ushiftRight, BitVec.toNat_or, BitVec.toNat_shiftLeft, Nat.shiftRight_eq_div_pow, Nat.shiftLeft_eq,
    Nat.mod_eq_of_lt (by omega), Nat.mul_comm, Nat.or_comm, ← Nat.two_pow_add_eq_or_of_lt (i := 16) ha]
  omega

/-- The rows of the first half, -/
theorem first_rows (n : IVec S100000x128 32) (i : Fin 50000) (l : Fin 128) :
    extractStridedSlice S50000x128 ![0, 0] n slices_S100000x128_S50000x128_0_0 (ix2 i l) = n (ix2 ⟨i.val, by omega⟩ l) := by
  refine extractStridedSlice_apply _ n _ _ _ fun a => ?_
  fin_cases a
  · exact (Nat.zero_add i.val).symm
  · exact (Nat.zero_add l.val).symm

/-- and of the second. -/
theorem second_rows (n : IVec S100000x128 32) (i : Fin 50000) (l : Fin 128) :
    extractStridedSlice S50000x128 ![50000, 0] n slices_S100000x128_S50000x128_50000_0 (ix2 i l) = n (ix2 ⟨50000 + i.val, by omega⟩ l) := by
  refine extractStridedSlice_apply _ n _ _ _ fun a => ?_
  fin_cases a
  · rfl
  · exact (Nat.zero_add l.val).symm

theorem packed_apply (n : IVec S100000x128 32) (i : Fin 50000) (l : Fin 128) :
    packed n (ix2 i l) = n (ix2 ⟨i.val, by omega⟩ l) ||| n (ix2 ⟨50000 + i.val, by omega⟩ l) <<< 16 := by
  have h1 := first_rows n i l
  have h2 := second_rows n i l
  unfold packed
  generalize extractStridedSlice S50000x128 ![0, 0] n slices_S100000x128_S50000x128_0_0 = x at h1 ⊢
  generalize extractStridedSlice S50000x128 ![50000, 0] n slices_S100000x128_S50000x128_50000_0 = y at h2 ⊢
  have e : ori x (Host.shli y (broadcastInDim S50000x128 ![] bcast_S_S50000x128 (constantI S_ 32 16#32))) (ix2 i l)
      = x (ix2 i l) ||| y (ix2 i l) <<< 16 := rfl
  rw [e, h1, h2]

end Cert.KernelIdeal.Gumbel

end
-- ==== Proof.Table.lean ====
/- The packed table the call is given, and the other arrays it is given. -/
module

public import proofs.«01_k».proof.Proof.Encode
public import proofs.«01_k».proof.Proof.Stage

@[expose] public section

set_option maxRecDepth 16384

noncomputable section

namespace Cert.KernelIdeal.Gumbel

open Idealize.ShloMosaic Idealize.ShloMosaic.TcCoe Idealize.ShloMosaic.Tactic
open Cert.KernelIdeal Cert.KernelIdeal.Gen

/-- The operations from the rounding's first choice to the call. -/
abbrev lateOps : List (HloOp τ sig (Elt Ideal)) :=
  hostOps0_1 ++ (hostOps0_2 ++ (hostOps0_3 ++ (hostOps0_4 ++ (hostOps0_5 ++ (hostOps0_6 ++ (hostOps0_7 ++ hostOps0_8))))))

variable (σ : Valuation τ sig (Elt Ideal))

abbrev sigmaG : FVec Ideal S100000x128 .f32 := σ (Proc.devRef .tc main_v183)
abbrev sigmaA : FVec Ideal S100000x128 .f32 := σ (Proc.devRef .tc main_v184)
abbrev sigmaB : IVec S29x100000x128 1 := σ (Proc.devRef .tc main_v195)
abbrev sigmaX : FVec Ideal S128x100000 .f32 := σ (Proc.devRef .tc main_arg0)

/-- What the last operations on the noise's own stretch leave. -/
theorem early (k : ℕ) (hk : k = 242) :
    (StableHlo.after (hostOps0.drop k) σ (Proc.devRef .tc main_v183) : FVec Ideal S100000x128 .f32) = sigmaG σ
    ∧ (StableHlo.after (hostOps0.drop k) σ (Proc.devRef .tc main_v184) : FVec Ideal S100000x128 .f32) = Host.absf (sigmaG σ)
    ∧ (StableHlo.after (hostOps0.drop k) σ (Proc.devRef .tc main_v195) : IVec S29x100000x128 1) = reached (Host.absf (sigmaG σ))
    ∧ (StableHlo.after (hostOps0.drop k) σ (Proc.devRef .tc main_c_58) : IVec S_ 32) = constantI S_ 32 1#32
    ∧ (StableHlo.after (hostOps0.drop k) σ (Proc.devRef .tc main_c_59) : IVec S_ 32) = constantI S_ 32 0#32 := by
  subst hk
  simp only [hostOps0, List.drop_succ_cons, List.drop_zero]
  refine ⟨?_, ?_, ?_, ?_, ?_⟩
  · after_results
  · after_results
  · unfold reached bounds
    after_results
  · after_results
  · after_results

/-- The table. -/
theorem late (h1 : (σ (Proc.devRef .tc main_c_58) : IVec S_ 32) = constantI S_ 32 1#32)
    (h0 : (σ (Proc.devRef .tc main_c_59) : IVec S_ 32) = constantI S_ 32 0#32)
    (ha : sigmaA σ = Host.absf (sigmaG σ)) (hb : sigmaB σ = reached (Host.absf (sigmaG σ))) :
    (StableHlo.after lateOps σ (Proc.devRef .tc main_v226) : IVec S50000x128 32)
      = packed (signs (sigmaG σ) (raws (leads (Host.absf (sigmaG σ))) (multiples (Host.absf (sigmaG σ)) (leads (Host.absf (sigmaG σ)))))) := by
  simp only [lateOps, hostOps0_1, hostOps0_2, hostOps0_3, hostOps0_4, hostOps0_5, hostOps0_6, hostOps0_7, hostOps0_8, List.cons_append, List.nil_append,
    StableHlo.TRef.unary, StableHlo.TRef.ternary, StableHlo.TRef.toBuf, StableHlo.TRef.ofBuf, cast_eq]
  after_results
  rw [h1, h0, show σ (Proc.devRef .tc main_v184) = _ from ha, show σ (Proc.devRef .tc main_v195) = _ from hb]
  unfold packed signs raws multiples leads
  rfl

end Cert.KernelIdeal.Gumbel

end
-- ==== Proof.Rows.lean ====
/- The kernel's output at an index, over the extended reals: each exponential is of a logit plus its code's number, and
the sums that scale them run over all the rows of a column. -/
module

public import proofs.«01_k».proof.Proof.Final
public import proofs.«01_k».proof.Proof.Halves
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Gumbel

open Idealize.ShloMosaic Idealize.ShloMosaic.TcCoe Idealize.ShloMosaic.Tactic
open Cert.KernelIdeal.Gen
open scoped BigOperators

/-- The kernel's steps from a code to its word. -/
theorem word_steps (h : BitVec 32) :
    Scalar.select (IntOp.cmpi .eq (IntOp.andi h 32767#32) 0#32)
      (IntOp.shli .vector (IntOp.andi h 32768#32) 16#32)
      (IntOp.ori (IntOp.shli .vector (IntOp.andi h 32768#32) 16#32)
        (IntOp.addi (IntOp.shli .vector (IntOp.andi h 32767#32) 13#32) 939524096#32)) = word h := by
  unfold word
  by_cases e : h &&& 32767#32 = 0#32
  · rw [if_pos e, show IntOp.cmpi .eq (IntOp.andi h 32767#32) 0#32 = 1#1 by
      show IntOp.cmpi .eq (h &&& 32767#32) 0#32 = 1#1
      rw [e]; rfl]
    rfl
  · rw [if_neg e, show IntOp.cmpi .eq (IntOp.andi h 32767#32) 0#32 = 0#1 by
      show BitVec.ofBool ((h &&& 32767#32) == 0#32) = 0#1
      rw [beq_eq_false_iff_ne.mpr e]; rfl]
    rfl

/-- One exponential of the first half's block. -/
theorem lowExp_apply (x0 : Vec Ideal S2000x128 .f32) (x2 : Vec Ideal S2000x128 .i32) (p : S2000x128.Idx) :
    lowExp x0 x2 p = Ideal.exp (x0 p + ((number (x2 p &&& 65535#32) : ℝ) : EReal)) := by
  rw [← word_number]
  unfold lowExp k0_pay6 k0_pay5
  pointwise
  exact congrArg (fun w => Ideal.exp (x0 p + Ideal.ofBits .f32 w)) (word_steps (x2 p &&& 65535#32))

/-- One exponential of the second half's block. -/
theorem highExp_apply (x1 : Vec Ideal S2000x128 .f32) (x2 : Vec Ideal S2000x128 .i32) (p : S2000x128.Idx) :
    highExp x1 x2 p = Ideal.exp (x1 p + ((number (x2 p >>> 16) : ℝ) : EReal)) := by
  rw [← word_number]
  unfold highExp k0_pay2 k0_pay7 k0_pay11 k0_pay10 k0_pay12 k0_pay9 k0_pay8 k0_pay5
  pointwise
  exact congrArg (fun w => Ideal.exp (x1 p + Ideal.ofBits .f32 w)) (word_steps (x2 p >>> 16))

/-- The running sums after a block's columns are added. -/
theorem addSums_apply (x0 x1 : Vec Ideal S2000x128 .f32) (x2 : Vec Ideal S2000x128 .i32) (r : Vec Ideal S1x128 .f32) (l : Fin 128) :
    addSums x0 x1 x2 r (ix2 0 l)
      = r (ix2 0 l) + ((∑ k : Fin 2000, lowExp x0 x2 (ix2 k l)) + ∑ k : Fin 2000, highExp x1 x2 (ix2 k l)) := by
  unfold addSums k0_pay3
  rw [show k0_pay2 (k0_pay7 x1) (k0_pay10 x2) (k0_pay11 x2) (k0_pay12 x2) = highExp x1 x2 from rfl]
  generalize lowExp x0 x2 = u
  generalize highExp x1 x2 = v
  pointwise

theorem noSums_apply (l : Fin 128) : noSums (F := Ideal) (ix2 0 l) = 0 := by
  unfold noSums firstRow k0_pay1
  pointwise

theorem scaled_apply (s : Vec Ideal S1x128 .f32) (y : Vec Ideal S100000x128 .f32) (q : S100000x128.Idx) :
    k0_pay4 s y q = y q * Ideal.div 1 (s (ix2 0 (q 1))) := by
  unfold k0_pay4
  pointwise

end Cert.KernelIdeal.Gumbel

end
-- ==== Proof.Blocks.lean ====
/- The blocks a point is handed, read as rows of the whole arrays. -/
module

public import proofs.«01_k».proof.Proof.Rows

@[expose] public section

set_option maxRecDepth 16384

noncomputable section

namespace Cert.KernelIdeal.Gumbel

open Idealize.ShloMosaic Idealize.ShloMosaic.TcCoe Idealize.ShloMosaic.Tactic
open Cert.KernelIdeal.Gen

variable (m : (ℓ : Loc nD τ sig) → Buf (Elt Ideal) ℓ) (c : Dev nD)

/-! Each window's block index at a point that adds a block. -/

theorem idx0 : ∀ t : Fin cfg0.N, t.val < 25 → win0_0.index t 0 = t.val ∧ win0_0.index t 1 = 0 := by decide +kernel
theorem idx1 : ∀ t : Fin cfg0.N, t.val < 25 → win0_1.index t 0 = t.val + 25 ∧ win0_1.index t 1 = 0 := by decide +kernel
theorem idx2 : ∀ t : Fin cfg0.N, t.val < 25 → win0_2.index t 0 = t.val ∧ win0_2.index t 1 = 0 := by decide +kernel

/-- The first half's block at point `t` is rows `2000 t …` of the transposed logits. -/
theorem inA_apply (t : Fin cfg0.N) (ht : t.val < 25) (p : S2000x128.Idx) :
    inA m c t p = (V m c main_v227 : Vec Ideal S100000x128 .f32) (lowIx t.val ht p) := by
  obtain ⟨e, e'⟩ := idx0 t ht
  blk_ext [inA, iblk, e, e', lowIx]

/-- The second half's block at point `t` is rows `50000 + 2000 t …`. -/
theorem inB_apply (t : Fin cfg0.N) (ht : t.val < 25) (p : S2000x128.Idx) :
    inB m c t p = (V m c main_v228 : Vec Ideal S100000x128 .f32) (highIx t.val ht p) := by
  obtain ⟨e, e'⟩ := idx1 t ht
  blk_ext [inB, iblk, e, e', highIx]

/-- The packed codes' block at point `t` is rows `2000 t …`. -/
theorem inW_apply (t : Fin cfg0.N) (ht : t.val < 25) (p : S2000x128.Idx) :
    inW m c t p = (V m c main_v226 : Vec Ideal S50000x128 .i32) (ix2 ⟨2000 * t.val + (p 0).val, by have : (p 0).val < 2000 := (p 0).isLt; omega⟩ (p 1)) := by
  obtain ⟨e, e'⟩ := idx2 t ht
  blk_ext [inW, iblk, e, e']

end Cert.KernelIdeal.Gumbel

end
-- ==== Proof.Sums.lean ====
/- The kernel's output as a whole: every exponential times the reciprocal of the sum of its column's exponentials. -/
module

public import proofs.«01_k».proof.Proof.Blocks

@[expose] public section

set_option maxRecDepth 16384

noncomputable section

namespace Cert.KernelIdeal.Gumbel

open Idealize.ShloMosaic Idealize.ShloMosaic.TcCoe Idealize.ShloMosaic.Tactic
open Cert.KernelIdeal.Gen
open scoped BigOperators

/-- The 16-bit code of row `i`, lane `l`: the low half of a word in the first half of the rows, the high half in the second. -/
def code (gu : Vec Ideal S50000x128 .i32) (i : Fin 100000) (l : Fin 128) : BitVec 32 :=
  if h : i.val < 50000 then gu (ix2 ⟨i.val, h⟩ l) &&& 65535#32
  else gu (ix2 ⟨i.val - 50000, by omega⟩ l) >>> 16

/-- A sum over consecutive chunks is the sum over them all. -/
theorem sum_chunks (f : ℕ → EReal) (w n : ℕ) :
    ∑ b ∈ Finset.range n, ∑ k ∈ Finset.range w, f (w * b + k) = ∑ i ∈ Finset.range (w * n), f i := by
  induction n with
  | zero => simp
  | succ n ih => rw [Finset.sum_range_succ, ih, Nat.mul_succ, Finset.sum_range_add]

variable (m : (ℓ : Loc nD τ sig) → Buf (Elt Ideal) ℓ) (c : Dev nD)

/-- The logits, transposed by the host for the first window and for the second. -/
abbrev rowsA : Vec Ideal S100000x128 .f32 := V m c main_v227
abbrev rowsB : Vec Ideal S100000x128 .f32 := V m c main_v228
/-- The packed codes. -/
abbrev codes : Vec Ideal S50000x128 .i32 := V m c main_v226

/-- The exponential in row `i`, lane `l`. -/
def expAt (i : Fin 100000) (l : Fin 128) : EReal :=
  Ideal.exp ((if i.val < 50000 then rowsA m c (ix2 i l) else rowsB m c (ix2 i l)) + ((number (code (codes m c) i l) : ℝ) : EReal))

theorem low_expAt (t : Fin cfg0.N) (ht : t.val < 25) (p : S2000x128.Idx) :
    lowExp (inA m c t) (inW m c t) p = expAt m c (lowIx t.val ht p 0) (p 1) := by
  have hp : (p 0).val < 2000 := (p 0).isLt
  have hl : (lowIx t.val ht p 0).val < 50000 := show 2000 * t.val + (p 0).val < 50000 by omega
  rw [lowExp_apply, inA_apply m c t ht, inW_apply m c t ht]
  unfold expAt code
  rw [if_pos hl, dif_pos hl]
  rfl

theorem high_expAt (t : Fin cfg0.N) (ht : t.val < 25) (p : S2000x128.Idx) :
    highExp (inB m c t) (inW m c t) p = expAt m c (highIx t.val ht p 0) (p 1) := by
  have hp : (p 0).val < 2000 := (p 0).isLt
  have hl : ¬(highIx t.val ht p 0).val < 50000 := show ¬50000 + 2000 * t.val + (p 0).val < 50000 by omega
  have e : (highIx t.val ht p 0).val - 50000 = 2000 * t.val + (p 0).val :=
    show 50000 + 2000 * t.val + (p 0).val - 50000 = 2000 * t.val + (p 0).val by omega
  rw [highExp_apply, inB_apply m c t ht, inW_apply m c t ht]
  unfold expAt code
  rw [if_neg hl, dif_neg hl]
  simp only [e]
  rfl

/-- Every entry of the unscaled output. -/
theorem exps_apply (q : S100000x128.Idx) : exps m c q = expAt m c (q 0) (q 1) := by
  have hq : (q 0).val < 100000 := (q 0).isLt
  unfold exps
  by_cases hl : (q 0).val < 50000
  · rw [dif_pos hl, low_expAt m c _ (show (q 0).val / 2000 < 25 by omega)]
    refine congrArg (fun i => expAt m c i (q 1)) (Fin.ext ?_)
    show 2000 * ((q 0).val / 2000) + (q 0).val % 2000 = (q 0).val
    omega
  · rw [dif_neg hl, high_expAt m c _ (show ((q 0).val - 50000) / 2000 < 25 by omega)]
    refine congrArg (fun i => expAt m c i (q 1)) (Fin.ext ?_)
    show 50000 + 2000 * (((q 0).val - 50000) / 2000) + ((q 0).val - 50000) % 2000 = (q 0).val
    omega

/-- The exponential at a natural-number row, zero past the end. -/
def expNat (l : Fin 128) (i : ℕ) : EReal := if h : i < 100000 then expAt m c ⟨i, h⟩ l else 0

theorem low_sum (t : Fin cfg0.N) (ht : t.val < 25) (l : Fin 128) :
    ∑ k : Fin 2000, lowExp (inA m c t) (inW m c t) (ix2 k l) = ∑ k ∈ Finset.range 2000, expNat m c l (2000 * t.val + k) := by
  rw [Finset.sum_range]
  refine Finset.sum_congr rfl fun k _ => ?_
  rw [low_expAt m c t ht, expNat, dif_pos (by have := k.isLt; omega)]
  rfl

theorem high_sum (t : Fin cfg0.N) (ht : t.val < 25) (l : Fin 128) :
    ∑ k : Fin 2000, highExp (inB m c t) (inW m c t) (ix2 k l)
      = ∑ k ∈ Finset.range 2000, expNat m c l (50000 + (2000 * t.val + k)) := by
  rw [Finset.sum_range]
  refine Finset.sum_congr rfl fun k _ => ?_
  rw [high_expAt m c t ht, expNat, dif_pos (by have := k.isLt; omega)]
  refine congrArg (fun i => expAt m c i l) (Fin.ext ?_)
  show 50000 + 2000 * t.val + k.val = 50000 + (2000 * t.val + k.val)
  omega

/-- The running sums before point `n`. -/
theorem sumsAt_apply (l : Fin 128) : ∀ (n : ℕ) (h : n ≤ cfg0.N) (h25 : n ≤ 25), sumsAt m c n h (ix2 0 l)
    = (∑ i ∈ Finset.range (2000 * n), expNat m c l i) + ∑ i ∈ Finset.range (2000 * n), expNat m c l (50000 + i)
  | 0, h, _ => by
    rw [sumsAt, noSums_apply]; simp
  | n + 1, h, h25 => by
    have hn : n < 25 := by omega
    rw [sumsAt, if_pos hn, addSums_apply, sumsAt_apply l n _ (by omega), low_sum m c ⟨n, h⟩ hn, high_sum m c ⟨n, h⟩ hn,
      Nat.mul_succ, Finset.sum_range_add, Finset.sum_range_add]
    simp only [Nat.add_assoc]
    abel

/-- With all the blocks added, the sums run over every row. -/
theorem sumsAt_all (l : Fin 128) (h : 25 ≤ cfg0.N) : sumsAt m c 25 h (ix2 0 l) = ∑ i : Fin 100000, expAt m c i l := by
  rw [sumsAt_apply m c l 25 h le_rfl]
  have e := Finset.sum_range_add (expNat m c l) 50000 50000
  rw [show 2000 * 25 = 50000 from rfl, ← e, Finset.sum_range]
  refine Finset.sum_congr rfl fun i _ => ?_
  rw [expNat, dif_pos i.isLt]

/-- The kernel's output at an index. -/
theorem output_apply (q : S100000x128.Idx) :
    output m c q = expAt m c (q 0) (q 1) * Ideal.div 1 (∑ i : Fin 100000, expAt m c i (q 1)) := by
  unfold output
  rw [scaled_apply, exps_apply]
  exact congrArg (fun s => expAt m c (q 0) (q 1) * Ideal.div 1 s) (sumsAt_all m c (q 1) _)

end Cert.KernelIdeal.Gumbel

end
-- ==== Proof.Entry.lean ====
/- What the kernel's three windows hold when the call starts: the logits with the axes exchanged, twice, and the table of
the noise. -/
module

public import proofs.«01_k».proof.Proof.Words
public import proofs.«01_k».proof.Proof.Table
public import proofs.«01_k».proof.Proof.Sums

@[expose] public section

set_option maxRecDepth 16384

noncomputable section

namespace Cert.KernelIdeal.Gumbel

open Idealize.ShloMosaic Idealize.ShloMosaic.TcCoe Idealize.ShloMosaic.Tactic
open Cert.KernelIdeal Cert.KernelIdeal.Gen

section
variable (σ : Valuation τ sig (Elt Ideal))

/-- The last operations exchange the logits' axes for the first window. -/
theorem late_A : (StableHlo.after lateOps σ (Proc.devRef .tc main_v227) : FVec Ideal S100000x128 .f32)
    = transpose S100000x128 [1, 0] (sigmaX σ) transposes_S128x100000_S100000x128_1_0 := by
  simp only [lateOps, hostOps0_1, hostOps0_2, hostOps0_3, hostOps0_4, hostOps0_5, hostOps0_6, hostOps0_7, hostOps0_8, List.cons_append, List.nil_append,
    StableHlo.TRef.unary, StableHlo.TRef.ternary, StableHlo.TRef.toBuf, StableHlo.TRef.ofBuf, cast_eq]
  after_results

/-- And for the second. -/
theorem late_B : (StableHlo.after lateOps σ (Proc.devRef .tc main_v228) : FVec Ideal S100000x128 .f32)
    = transpose S100000x128 [1, 0] (sigmaX σ) transposes_S128x100000_S100000x128_1_0 := by
  simp only [lateOps, hostOps0_1, hostOps0_2, hostOps0_3, hostOps0_4, hostOps0_5, hostOps0_6, hostOps0_7, hostOps0_8, List.cons_append, List.nil_append,
    StableHlo.TRef.unary, StableHlo.TRef.ternary, StableHlo.TRef.toBuf, StableHlo.TRef.ofBuf, cast_eq]
  after_results

/-- They keep the logits. -/
theorem late_X : (StableHlo.after lateOps σ (Proc.devRef .tc main_arg0) : FVec Ideal S128x100000 .f32) = sigmaX σ := by
  simp only [lateOps, hostOps0_1, hostOps0_2, hostOps0_3, hostOps0_4, hostOps0_5, hostOps0_6, hostOps0_7, hostOps0_8, List.cons_append, List.nil_append,
    StableHlo.TRef.unary, StableHlo.TRef.ternary, StableHlo.TRef.toBuf, StableHlo.TRef.ofBuf, cast_eq]
  after_results
end

variable (m : (ℓ : Loc nD τ sig) → Buf (Elt Ideal) ℓ) (c : Dev nD)
  (U : Valuation Cert.ReferenceIdeal.τ Cert.ReferenceIdeal.sig (Elt Ideal))

/-- The contents of the buffers before the last operations. -/
def before : Valuation τ sig (Elt Ideal) := StableHlo.after (hostOps0.drop 242) (stage (fun b => m (c, b)) 242)

theorem entry_eq : V0 m c = StableHlo.after lateOps (before m c) := by
  have e : List.flatten [hostOps0, hostOps0_1, hostOps0_2, hostOps0_3, hostOps0_4, hostOps0_5, hostOps0_6, hostOps0_7, hostOps0_8]
      = hostOps0 ++ (lateOps : List (HloOp τ sig (Elt Ideal))) := by
    simp only [List.flatten_cons, List.flatten_nil, List.append_nil, lateOps]
  unfold V0 before stage
  rw [e, after_both, ← after_both (List.take 242 hostOps0), List.take_append_drop]

/-- The logits as the program is given them. -/
abbrev logits : FVec Ideal S128x100000 .f32 := m ((c.tc : Thread nD τ).loc main_arg0)

theorem before_X : sigmaX (before m c) = logits m c := by
  have h : (V m c main_arg0 : FVec Ideal S128x100000 .f32) = _ := (congrFun (entry_eq m c) (Proc.devRef .tc main_arg0)).trans (late_X (before m c))
  exact h.symm.trans (V_main_arg0 m c)

theorem rowsA_eq : rowsA m c = transpose S100000x128 [1, 0] (logits m c) transposes_S128x100000_S100000x128_1_0 := by
  rw [← before_X]
  exact (congrFun (entry_eq m c) (Proc.devRef .tc main_v227)).trans (late_A (before m c))

theorem rowsB_eq : rowsB m c = transpose S100000x128 [1, 0] (logits m c) transposes_S128x100000_S100000x128_1_0 := by
  rw [← before_X]
  exact (congrFun (entry_eq m c) (Proc.devRef .tc main_v228)).trans (late_B (before m c))

/-- The noise as the reference computes it, with the axes exchanged. -/
def noiseT : FVec Ideal S100000x128 .f32 := turned (Cert.ReferenceIdeal.Value.res_main_v183 U)

theorem before_G : sigmaG (before m c) = noiseT U :=
  (early (stage (fun b => m (c, b)) 242) 242 rfl).1.trans (noise_eq (fun b => m (c, b)) U)

/-- The table of the noise `z`. -/
def table (z : FVec Ideal S100000x128 .f32) : IVec S50000x128 32 :=
  packed (signs z (raws (leads (Host.absf z)) (multiples (Host.absf z) (leads (Host.absf z)))))

theorem codes_eq : codes m c = table (noiseT U) := by
  have e := early (stage (fun b => m (c, b)) 242) 242 rfl
  have g := before_G m c U
  have t : codes m c = table (sigmaG (before m c)) := by
    refine (congrFun (entry_eq m c) (Proc.devRef .tc main_v226)).trans (late (before m c) e.2.2.2.1 e.2.2.2.2 ?_ ?_)
    · exact e.2.1.trans (congrArg Host.absf e.1.symm)
    · exact e.2.2.1.trans (congrArg (fun z => reached (Host.absf z)) e.1.symm)
  rw [t, g]

end Cert.KernelIdeal.Gumbel

end
-- ==== Proof.Softmax.lean ====
/- The softmax of a finite family of extended reals whose maximum is a real number: dividing the exponentials by their
sum, and dividing the exponentials taken after the maximum is subtracted, give the same numbers. -/
module

public import Idealize.ShloMosaic.PureOps.Ideal
public import Mathlib.Analysis.SpecialFunctions.Exp
public import Mathlib.Data.EReal.Inv

@[expose] public section

noncomputable section

namespace Cert.KernelIdeal.Gumbel

open Idealize.ShloMosaic
open scoped BigOperators

/-- The exponential as a real number, of anything but `⊤`: zero at `⊥`. -/
def expReal : EReal → ℝ
  | ⊥ => 0
  | ⊤ => 0
  | (r : ℝ) => Real.exp r

theorem exp_eq_expReal (a : EReal) (h : a ≠ ⊤) : Ideal.exp a = ((expReal a : ℝ) : EReal) := by
  induction a using EReal.rec with
  | bot => exact EReal.coe_zero.symm
  | top => exact absurd rfl h
  | coe r => rfl

theorem expReal_nonneg (a : EReal) : 0 ≤ expReal a := by
  induction a using EReal.rec with
  | bot => exact le_refl 0
  | top => exact le_refl 0
  | coe r => exact (Real.exp_pos r).le

/-- Subtracting a real number first divides the exponential by that number's. -/
theorem exp_sub_real (a : EReal) (r : ℝ) (h : a ≠ ⊤) : Ideal.exp (a - (r : EReal)) = ((expReal a * Real.exp (-r) : ℝ) : EReal) := by
  induction a using EReal.rec with
  | bot =>
    rw [EReal.bot_sub]
    show (0 : EReal) = ((0 * Real.exp (-r) : ℝ) : EReal)
    rw [zero_mul, EReal.coe_zero]
  | top => exact absurd rfl h
  | coe s =>
    rw [← EReal.coe_sub]
    show ((Real.exp (s - r) : ℝ) : EReal) = ((Real.exp s * Real.exp (-r) : ℝ) : EReal)
    rw [← Real.exp_add, sub_eq_add_neg]

/-- A sum of real numbers taken in the extended reals. -/
theorem coe_sum_real {n : ℕ} (f : Fin n → ℝ) : ((∑ k, f k : ℝ) : EReal) = ∑ k, ((f k : ℝ) : EReal) :=
  map_sum (⟨⟨fun r : ℝ => (r : EReal), EReal.coe_zero⟩, EReal.coe_add⟩ : ℝ →+ EReal) f Finset.univ

theorem softmax_eq {n : ℕ} (y : Fin n → EReal) (r : ℝ) (hle : ∀ k, y k ≤ (r : EReal)) (hmax : ∃ k, y k = (r : EReal)) (i : Fin n) :
    Ideal.exp (y i) * Ideal.div 1 (∑ k, Ideal.exp (y k))
      = Ideal.div (Ideal.exp (y i - (r : EReal))) (∑ k, Ideal.exp (y k - (r : EReal))) := by
  have hne : ∀ k, y k ≠ ⊤ := fun k h => absurd (hle k) (by rw [h]; simp)
  obtain ⟨k₀, hk₀⟩ := hmax
  have hpos : 0 < ∑ k, expReal (y k) :=
    Finset.sum_pos' (fun k _ => expReal_nonneg _) ⟨k₀, Finset.mem_univ _, by rw [hk₀]; exact Real.exp_pos r⟩
  have h1 : ∑ k, Ideal.exp (y k) = ((∑ k, expReal (y k) : ℝ) : EReal) := by
    rw [coe_sum_real]; exact Finset.sum_congr rfl fun k _ => exp_eq_expReal _ (hne k)
  have h2 : ∑ k, Ideal.exp (y k - (r : EReal)) = (((∑ k, expReal (y k)) * Real.exp (-r) : ℝ) : EReal) := by
    rw [Finset.sum_mul, coe_sum_real]; exact Finset.sum_congr rfl fun k _ => exp_sub_real _ r (hne k)
  have hr := Real.exp_pos (-r)
  rw [h1, h2, exp_eq_expReal _ (hne i), exp_sub_real _ r (hne i), ← EReal.coe_one]
  rw [Ideal.div, if_neg (by exact_mod_cast hpos.ne'), Ideal.div, if_neg (by exact_mod_cast (mul_pos hpos hr).ne'),
    ← EReal.coe_inv, ← EReal.coe_inv, ← EReal.coe_mul, ← EReal.coe_mul, ← EReal.coe_mul]
  congr 1
  field_simp

end Cert.KernelIdeal.Gumbel

end
-- ==== Proof.RefSoftmax.lean ====
/- The reference's softmax of an array of extended reals, read at an index. -/
module

public import proofs.«01_k».proof.Proof.Gen.ReferenceIdeal
public import proofs.«01_k».proof.Proof.Gen.Pre_row_max_finite
public import proofs.«01_k».proof.Proof.Softmax
public import proofs.«01_k».proof.Proof.RowMax
public import Idealize.ShloMosaic.Lib.Pointwise

@[expose] public section

set_option maxRecDepth 16384

noncomputable section

namespace Cert.ReferenceIdeal.Gumbel

open Idealize.ShloMosaic Idealize.ShloMosaic.TcCoe Idealize.ShloMosaic.Tactic
open Cert.ReferenceIdeal Cert.ReferenceIdeal.Gen
open scoped BigOperators

variable (y : FVec Ideal S128x100000 .f32)

/-- The row maxima, taken from −∞. -/
def rowMax : FVec Ideal S128 .f32 :=
  maximumf (broadcastInDim S128 ![] bcast_S_S128 (constant S_ .f32 0xFF800000#32))
    (Host.reduce FloatOps.maximumf y (constant S_ .f32 0xFF800000#32) reducesTo_S128x100000_S128_d1 h_S_)

/-- The exponentials after the row maximum is subtracted. -/
def shifted : FVec Ideal S128x100000 .f32 :=
  Host.exp (subf y (broadcastInDim S128x100000 ![0, 1] bcast_S128x1_S128x100000_0_1 (broadcastInDim S128x1 ![0] bcast_S128_S128x1_0 (rowMax y))))

/-- The softmax along the rows. -/
def softmax : FVec Ideal S128x100000 .f32 :=
  Host.divf (shifted y) (broadcastInDim S128x100000 ![0, 1] bcast_S128x1_S128x100000_0_1 (broadcastInDim S128x1 ![0] bcast_S128_S128x1_0
    (Host.reduceAdd (shifted y) (constant S_ .f32 0x00000000#32) reducesTo_S128x100000_S128_d1 h_S_)))

theorem reduces_row : S128x100000.Reduces [1] S128 := by decide

/-- The reduction by maximum, at a row. -/
theorem reduce_row (i : Fin 128) :
    Host.reduce FloatOps.maximumf y (constant S_ .f32 0xFF800000#32) reducesTo_S128x100000_S128_d1 h_S_ (ix1 i)
      = (Finset.univ.fold max (⊥ : EReal) fun k : Fin 100000 => y (ix2 i k)) :=
  reduce_max (a := 128) (n := 100000) y (constant S_ .f32 0xFF800000#32) reducesTo_S128x100000_S128_d1 reduces_row h_S_ neg_inf i

/-- The maximum with −∞ changes nothing. -/
theorem max_neg_inf (z : FVec Ideal S128 .f32) (i : Fin 128) :
    maximumf (broadcastInDim S128 ![] bcast_S_S128 (constant S_ .f32 0xFF800000#32)) z (ix1 i) = z (ix1 i) := by
  show max (FloatOps.ofBits .f32 0xFF800000#32 : Ideal .f32) (z (ix1 i)) = z (ix1 i)
  rw [neg_inf]
  exact bot_sup_eq (z (ix1 i) : EReal)

/-- A row's maximum: the fold of `max` over it. -/
theorem rowMax_apply (i : Fin 128) : rowMax y (ix1 i) = Finset.univ.fold max ⊥ fun k : Fin 100000 => y (ix2 i k) :=
  (max_neg_inf _ i).trans (reduce_row y i)

theorem shifted_apply (i : Fin 128) (k : Fin 100000) : shifted y (ix2 i k) = Ideal.exp (y (ix2 i k) - rowMax y (ix1 i)) := by
  unfold shifted
  generalize rowMax y = z
  pointwise

theorem softmax_apply (i : Fin 128) (k : Fin 100000) :
    softmax y (ix2 i k) = Ideal.div (shifted y (ix2 i k)) (∑ j : Fin 100000, shifted y (ix2 i j)) := by
  unfold softmax
  generalize shifted y = z
  pointwise

/-- The fold of `max` from `⊥` is at least every term, -/
theorem le_fold {n : ℕ} (f : Fin n → EReal) (k : Fin n) : f k ≤ Finset.univ.fold max ⊥ f :=
  (Finset.le_fold_max (f k)).mpr (Or.inr ⟨k, Finset.mem_univ _, le_rfl⟩)

/-- and unless it is `⊥` it is one of them. -/
theorem fold_mem {n : ℕ} (f : Fin n → EReal) (h : Finset.univ.fold max ⊥ f ≠ ⊥) : ∃ k, f k = Finset.univ.fold max ⊥ f := by
  rcases (Finset.le_fold_max (s := Finset.univ) (f := f) (b := ⊥) (Finset.univ.fold max ⊥ f)).mp le_rfl with h' | ⟨k, -, hk⟩
  · exact absurd (le_bot_iff.mp h') h
  · exact ⟨k, le_antisymm (le_fold f k) hk⟩

/-- The softmax of logits plus real noise, when the largest logit of the row is a real number: each exponential times
    the reciprocal of the row's sum of exponentials. -/
theorem softmax_noise (x : FVec Ideal S128x100000 .f32) (g : Fin 128 → Fin 100000 → ℝ) (i : Fin 128) (k : Fin 100000)
    (hy : ∀ k, y (ix2 i k) = x (ix2 i k) + ((g i k : ℝ) : EReal))
    (hb : Finset.univ.fold max ⊥ (fun k : Fin 100000 => x (ix2 i k)) ≠ ⊥)
    (ht : Finset.univ.fold max ⊥ (fun k : Fin 100000 => x (ix2 i k)) ≠ ⊤) :
    softmax y (ix2 i k) = Ideal.exp (x (ix2 i k) + ((g i k : ℝ) : EReal))
      * Ideal.div 1 (∑ j : Fin 100000, Ideal.exp (x (ix2 i j) + ((g i j : ℝ) : EReal))) := by
  rw [softmax_apply]
  simp only [shifted_apply, rowMax_apply]
  simp only [hy]
  obtain ⟨k₀, hk₀⟩ := fold_mem _ hb
  have hx : ∀ k, x (ix2 i k) ≠ ⊤ := fun k h => ht (top_le_iff.mp (h ▸ le_fold (fun k : Fin 100000 => x (ix2 i k)) k))
  have hx₀ : x (ix2 i k₀) ≠ ⊥ := fun h => hb (hk₀.symm.trans h)
  have hyt : ∀ k, x (ix2 i k) + ((g i k : ℝ) : EReal) ≠ ⊤ := fun k => EReal.add_ne_top (hx k) (EReal.coe_ne_top _)
  have hb' : Finset.univ.fold max ⊥ (fun k : Fin 100000 => x (ix2 i k) + ((g i k : ℝ) : EReal)) ≠ ⊥ := fun h => by
    have := le_fold (fun k : Fin 100000 => x (ix2 i k) + ((g i k : ℝ) : EReal)) k₀
    rw [h, le_bot_iff, EReal.add_eq_bot_iff] at this
    rcases this with e | e
    · exact hx₀ e
    · exact EReal.coe_ne_bot _ e
  obtain ⟨k₁, hk₁⟩ := fold_mem _ hb'
  have hle := le_fold (fun k : Fin 100000 => x (ix2 i k) + ((g i k : ℝ) : EReal))
  have ht' := hyt k₁
  rw [hk₁] at ht'
  generalize Finset.univ.fold max ⊥ (fun k : Fin 100000 => x (ix2 i k) + ((g i k : ℝ) : EReal)) = M at *
  lift M to ℝ using ⟨ht', hb'⟩
  exact (Cert.KernelIdeal.Gumbel.softmax_eq _ M hle ⟨k₁, hk₁⟩ k).symm

theorem real_of_below (z : FVec Ideal S128 .f32) (i : Fin 128)
    (l : cmpf .olt (Host.absf z) (broadcastInDim S128 ![] bcast_S_S128 (constant S_ .f32 0x7F800000#32)) (ix1 i) = 1#1) :
    (z (ix1 i) : EReal) ≠ ⊥ ∧ (z (ix1 i) : EReal) ≠ ⊤ := by
  have l' : Ideal.cmp .olt (max (z (ix1 i) : EReal) (-(z (ix1 i) : EReal))) (FloatOps.ofBits .f32 0x7F800000#32 : Ideal .f32) = 1#1 := l
  rw [pos_inf] at l'
  apply real_of_abs
  by_contra hc
  simp [Ideal.cmp, hc] at l'

/-- The precondition: every row's largest logit is a real number. -/
theorem row_max_real (x : FVec Ideal S128x100000 .f32)
    (h : Cert.Pre_row_max_finite.fn (F := Ideal) x = fun _ => 1#1) (i : Fin 128) :
    Finset.univ.fold max ⊥ (fun k : Fin 100000 => x (ix2 i k)) ≠ ⊥ ∧ Finset.univ.fold max ⊥ (fun k : Fin 100000 => x (ix2 i k)) ≠ ⊤ := by
  have l := real_of_below (Host.reduce FloatOps.maximumf x (constant S_ .f32 0xFF800000#32) reducesTo_S128x100000_S128_d1 h_S_) i
    (congrFun h (ix1 i))
  rw [reduce_row x i] at l
  exact l

end Cert.ReferenceIdeal.Gumbel

end
-- ==== Proof.Equal.lean ====
/- The kernel's result and the reference's are the same array. -/
module

public import proofs.«01_k».proof.Proof.Final
public import proofs.«01_k».proof.Proof.Entry
public import proofs.«01_k».proof.Proof.Encode
public import proofs.«01_k».proof.Proof.RefSoftmax
public import Idealize.ShloMosaic.Lib.Claim

@[expose] public section

set_option maxRecDepth 16384

noncomputable section

namespace Cert.ReferenceIdeal.Gumbel

open Idealize.ShloMosaic Idealize.ShloMosaic.TcCoe Idealize.ShloMosaic.Tactic
open Cert.ReferenceIdeal Cert.ReferenceIdeal.Gen
open Cert.KernelIdeal.Gumbel (near)

variable (U : Valuation τ sig (Elt Ideal))

theorem exp_eq : (Value.res_main_v217 U : FVec Ideal S128x100000 .f32) = shifted (noisy U) := by
  rw [Value.res_main_v217]
  unfold noisy
  generalize Value.res_main_v210 U = y
  rfl

/-- The reference's result is the softmax of the noisy logits. -/
theorem res_eq : Host.divf (Value.res_main_v217 U) (broadcastInDim S128x100000 ![0, 1] bcast_S128x1_S128x100000_0_1 (broadcastInDim S128x1 ![0] bcast_S128_S128x1_0
      (Host.reduceAdd (Value.res_main_v217 U) (constant S_ .f32 0x00000000#32) reducesTo_S128x100000_S128_d1 h_S_))) = softmax (noisy U) := by
  have h := exp_eq U
  generalize Value.res_main_v217 U = z at h ⊢
  generalize noisy U = y at h ⊢
  subst h
  rfl

/-- The reference's result at an index. -/
theorem result_apply (h : Cert.Pre_row_max_finite.fn (F := Ideal) (logits U) = fun _ => 1#1) (l : Fin 128) (i : Fin 100000) :
    softmax (noisy U) (ix2 l i) = Ideal.exp (logits U (ix2 l i) + ((near (noise U l i) : ℝ) : EReal))
      * Ideal.div 1 (∑ j : Fin 100000, Ideal.exp (logits U (ix2 l j) + ((near (noise U l j) : ℝ) : EReal))) :=
  softmax_noise _ (logits U) (fun l i => near (noise U l i)) l i (noisy_apply U l) (row_max_real (logits U) h l).1 (row_max_real (logits U) h l).2

end Cert.ReferenceIdeal.Gumbel

namespace Cert.KernelIdeal.Gumbel

open Idealize.ShloMosaic Idealize.ShloMosaic.TcCoe Idealize.ShloMosaic.Tactic
open Cert.KernelIdeal Cert.KernelIdeal.Gen
open Cert.ReferenceIdeal.Gumbel (noise noise_spec)

/-- The code in the table of an element. -/
theorem code_table (z : FVec Ideal S100000x128 .f32) (f : Fin 128 → Fin 100000 → ℝ)
    (hz : ∀ i l, z (ix2 i l) = ((f l i : ℝ) : EReal) ∧ |f l i| < 65536) (i : Fin 100000) (l : Fin 128) :
    code (table z) i l = codeOf (f l i) := by
  have hc : ∀ i l, signs z (raws (leads (Host.absf z)) (multiples (Host.absf z) (leads (Host.absf z)))) (ix2 i l) = codeOf (f l i) :=
    fun i l => code_apply z i l (f l i) (hz i l).1 (hz i l).2
  have hs : ∀ i l, (codeOf (f l i)).toNat < 65536 := fun i l => (number_codeOf (hz i l).2).2
  unfold code table
  generalize signs z (raws (leads (Host.absf z)) (multiples (Host.absf z) (leads (Host.absf z)))) = n at hc ⊢
  by_cases h : i.val < 50000
  · rw [dif_pos h, packed_apply n ⟨i.val, h⟩ l, hc, hc]
    exact low_half _ _ (hs _ _)
  · rw [dif_neg h, packed_apply n ⟨i.val - 50000, by omega⟩ l, hc, hc, high_half _ _ (hs _ _) (hs _ _)]
    refine congrArg (fun k => codeOf (f l k)) (Fin.ext ?_)
    show 50000 + (i.val - 50000) = i.val
    omega

variable (m : (ℓ : Loc nD τ sig) → Buf (Elt Ideal) ℓ) (c : Dev nD)
  (U : Valuation Cert.ReferenceIdeal.τ Cert.ReferenceIdeal.sig (Elt Ideal))

/-- The number a code of the table stands for is the noise rounded to half precision. -/
theorem number_code (i : Fin 100000) (l : Fin 128) : number (code (codes m c) i l) = near (noise U l i) := by
  have hz : ∀ i l, noiseT U (ix2 i l) = ((noise U l i : ℝ) : EReal) ∧ |noise U l i| < 65536 := fun i l => noise_spec U l i
  rw [codes_eq m c U, code_table _ (noise U) hz, (number_codeOf (hz i l).2).1]

theorem exchanged (x : FVec Ideal S128x100000 .f32) (i : Fin 100000) (l : Fin 128) :
    transpose S100000x128 [1, 0] x transposes_S128x100000_S100000x128_1_0 (ix2 i l) = x (ix2 l i) := by
  pointwise

theorem expAt_eq (i : Fin 100000) (l : Fin 128) :
    expAt m c i l = Ideal.exp (logits m c (ix2 l i) + ((near (noise U l i) : ℝ) : EReal)) := by
  unfold expAt
  rw [rowsA_eq, rowsB_eq, ite_self, exchanged, number_code m c U]

/-- The kernel's result at an index. -/
theorem result_apply (l : Fin 128) (i : Fin 100000) :
    transpose S128x100000 [1, 0] (output m c) transposes_S100000x128_S128x100000_1_0 (ix2 l i)
      = expAt m c i l * Ideal.div 1 (∑ j : Fin 100000, expAt m c j l) := by
  have h := output_apply m c (ix2 i l)
  generalize output m c = z at h ⊢
  have e : transpose S128x100000 [1, 0] z transposes_S100000x128_S128x100000_1_0 (ix2 l i) = z (ix2 i l) := by
    pointwise
  exact e.trans h

/-- Where every row's largest logit is a real number the two results are equal. -/
theorem results_eq (hx : Cert.ReferenceIdeal.Gumbel.logits U = logits m c) (h : Cert.Pre_row_max_finite.fn (F := Ideal) (logits m c) = fun _ => 1#1) :
    transpose S128x100000 [1, 0] (output m c) transposes_S100000x128_S128x100000_1_0
      = Cert.ReferenceIdeal.Gumbel.softmax (Cert.ReferenceIdeal.Gumbel.noisy U) := by
  have r := Cert.ReferenceIdeal.Gumbel.result_apply U (by rw [hx]; exact h)
  rw [hx] at r
  generalize Cert.ReferenceIdeal.Gumbel.softmax (Cert.ReferenceIdeal.Gumbel.noisy U) = z at r ⊢
  funext q
  have e : ∀ q : S128x100000.Idx, q = ix2 (q 0) (q 1) := fun q => by
    funext a
    fin_cases a <;> rfl
  rw [e q]
  refine (result_apply m c (q 0) (q 1)).trans (Eq.trans ?_ (r (q 0) (q 1)).symm)
  exact congrArg₂ (fun a b : EReal => a * Ideal.div 1 b) (expAt_eq m c U (q 1) (q 0)) (Finset.sum_congr rfl fun j _ => expAt_eq m c U j (q 0))

end Cert.KernelIdeal.Gumbel

end
-- ==== Proof.Twin.lean ====
/- The kernel as it is printed for floating point and as it is printed for the extended reals are one program, so the
first runs as the second does. -/
module

public import proofs.«01_k».proof.Proof.Final
public import proofs.«01_k».proof.Proof.Gen.Kernel
public import proofs.«01_k».proof.Defs

@[expose] public section

noncomputable section

namespace Cert.Kernel.Gumbel

open Idealize.ShloMosaic Idealize.SL.Sem

variable {F : FTy → Type} [FloatOps F]

theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem defs_eq : Cert.Kernel.defs (F := F) = Cert.KernelIdeal.defs (F := F) :=
  congrArg (Pipeline.defs Cert.KernelIdeal.pcfgs) defs₀_eq

set_option maxHeartbeats 2000000

theorem part0_eq : Cert.Kernel.main_part0 (F := F) = Cert.KernelIdeal.main_part0 (F := F) := rfl
theorem part1_eq : Cert.Kernel.main_part1 (F := F) = Cert.KernelIdeal.main_part1 (F := F) := rfl
theorem part2_eq : Cert.Kernel.main_part2 (F := F) = Cert.KernelIdeal.main_part2 (F := F) := rfl
theorem part3_eq : Cert.Kernel.main_part3 (F := F) = Cert.KernelIdeal.main_part3 (F := F) := rfl
theorem part4_eq : Cert.Kernel.main_part4 (F := F) = Cert.KernelIdeal.main_part4 (F := F) := rfl
theorem part5_eq : Cert.Kernel.main_part5 (F := F) = Cert.KernelIdeal.main_part5 (F := F) := rfl

theorem main_eq : Cert.Kernel.main (F := F) = Cert.KernelIdeal.main (F := F) := by
  unfold Cert.Kernel.main Cert.KernelIdeal.main
  rw [part0_eq, part1_eq, part2_eq, part3_eq, part4_eq, part5_eq]
  rfl

/-- The kernel in floating point runs, changes no argument, and ends with every counter at zero. -/
theorem frame : Cert.quiescent_Kernel := by
  intro m g _
  rw [defs_eq, main_eq]
  exact (θ_run _ _ _).mono (fun r h => ⟨fun c => (h.1 c).2, h.2⟩) (Cert.KernelIdeal.Gumbel.run_result (F := Bits) m g)

end Cert.Kernel.Gumbel

end
-- ==== Proof.lean ====
module

public import proofs.«01_k».proof.Proof.Gen.Pre_row_max_finite
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equal
public import proofs.«01_k».proof.Proof.Twin
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, changes no argument, and ends with every counter at zero. -/
theorem reference_frame : Cert.quiescent_ReferenceIdeal := by
  intro m g _
  exact (θ_run _ _ _).mono (fun r h => ⟨fun c => (h c).2, sem_eq_zero_of_no_sems rfl _⟩) (Cert.ReferenceIdeal.Value.run m g)

/-- The two programs' results are equal. -/
theorem equal : Cert.algebraic_KernelIdeal_ReferenceIdeal_pre_row_max_finite := by
  intro m g m' g' hpre hagree
  refine ⟨fun c => transpose Cert.KernelIdeal.S128x100000 [1, 0] (Cert.KernelIdeal.Gumbel.output m c) Cert.KernelIdeal.Gen.transposes_S100000x128_S128x100000_1_0, ?_, ?_⟩
  · exact (θ_run _ _ _).mono (fun r h => h.1) (Cert.KernelIdeal.Gumbel.run_result m g)
  · refine (θ_run _ _ _).mono (fun r h c => ⟨(h c).1.trans ?_, (h c).2⟩) (Cert.ReferenceIdeal.Value.run m' g')
    refine (Cert.ReferenceIdeal.Gumbel.res_eq _).trans ?_
    exact (Cert.KernelIdeal.Gumbel.results_eq m c (StableHlo.launchContents m' c) (hagree c) (hpre c)).symm

theorem claim : Cert.Claim := ⟨Cert.Kernel.Gen.facts, Cert.KernelIdeal.Gen.facts, Cert.ReferenceIdeal.Gen.facts, Cert.Pre_row_max_finite.Gen.facts,
  Cert.Kernel.Gumbel.frame,
  fun m g _ => (θ_run _ _ _).mono (fun r h => ⟨fun c => (h.1 c).2, h.2⟩) (Cert.KernelIdeal.Gumbel.run_result m g),
  fun m g _ => (θ_run _ _ _).mono (fun r h => ⟨fun c => (h.1 c).2, h.2⟩) (Cert.KernelIdeal.Gumbel.run_result m g),
  reference_frame, fun m g _ => reference_frame m g trivial, trivial, equal⟩

end Cert.Proof

end
